-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v37) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel_KernelIdeal : Prop :=
  True

def algebraic_KernelIdeal_ReferenceIdeal [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel : Cert.Kernel.Facts) (hKernelIdeal : Cert.KernelIdeal.Facts) (hReferenceIdeal : Cert.ReferenceIdeal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_operands : Cert.Pre_finite_operands.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel (hKernel := hKernel)
    ∧ quiescent_KernelIdeal (hKernelIdeal := hKernelIdeal) (hPre_finite_operands := hPre_finite_operands)
    ∧ quiescent_KernelIdeal_pre_none (hKernelIdeal := hKernelIdeal)
    ∧ quiescent_ReferenceIdeal (hReferenceIdeal := hReferenceIdeal)
    ∧ quiescent_ReferenceIdeal_pre_finite_operands (hReferenceIdeal := hReferenceIdeal) (hPre_finite_operands := hPre_finite_operands)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel_KernelIdeal
    ∧ algebraic_KernelIdeal_ReferenceIdeal (hKernelIdeal := hKernelIdeal) (hReferenceIdeal := hReferenceIdeal) (hPre_finite_operands := hPre_finite_operands)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_operands.lean ====
abbrev S4096x1024 : Shape := ⟨2, ![4096, 1024]⟩
abbrev S64 : Shape := ⟨1, ![64]⟩
abbrev S4096x768 : Shape := ⟨2, ![4096, 768]⟩
abbrev S_ : Shape := ⟨0, ![]⟩

class Facts : Prop where
  slices_S4096x1024_S4096x768_0_0 : S4096x1024.Slices ![0, 0] S4096x768
  bcast_S_S4096x768 : S_.BroadcastsInDim S4096x768 (![] : Fin 0 → Fin S4096x768.rank)
  bcast_S_S64 : S_.BroadcastsInDim S64 (![] : Fin 0 → Fin S64.rank)

variable [Facts]

def fn {F : FTy → Type} [FloatOps F] (main_arg0 : FVec F S4096x1024 .f32) (main_arg1 : FVec F S64 .f32) (main_arg2 : FVec F S64 .f32) : IVec S4096x768 1 × IVec S64 1 × IVec S64 1 :=
  let main_v0 : FVec F S4096x768 .f32 := (extractStridedSlice S4096x768 ![0, 0] · slices_S4096x1024_S4096x768_0_0) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg2
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  (main_v3, main_v6, main_v9)
-- ==== Kernel2.lean ====
abbrev S8x1024x1024 : Shape := ⟨3, ![8, 1024, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S8192x1024 : Shape := ⟨2, ![8192, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 10
  | .vmem => 9
  | .smem => 0
  | _ => 0

abbrev bufTy : (tb : Table) → Fin (tcTables nBuf tb) → BufTy
  | .hbm, ⟨0, _⟩ => ⟨S8x1024x1024, .f32⟩
  | .hbm, ⟨1, _⟩ => ⟨S16x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x1024x1024 : Shape := ⟨3, ![8, 1024, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩
abbrev S8x1024x5632 : Shape := ⟨3, ![8, 1024, 5632]⟩
abbrev S8x1024x2816 : Shape := ⟨3, ![8, 1024, 2816]⟩
abbrev S8192x1024 : Shape := ⟨2, ![8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S16x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1024x1024, .f32⟩
  | .hbm, ⟨15, _⟩ => ⟨S_, .f32⟩
  | .hbm, ⟨16, _⟩ => ⟨S8x1024, .f32⟩
  | .hbm, ⟨17, _⟩ => ⟨S8x1024x1, .f32⟩
  | .hbm, ⟨18, _⟩ => ⟨S_, .f32⟩
  | .hbm, ⟨19, _⟩ => ⟨S8x1024x1, .f32⟩
  | .hbm, ⟨20, _⟩ => ⟨S8x1024x1, .f32⟩
  | .hbm, ⟨21, _⟩ => ⟨S_, .f32⟩
  | .hbm, ⟨22, _⟩ => ⟨S8x1024x1, .f32⟩
  | .hbm, ⟨23, _⟩ => ⟨S8x1024x1, .f32⟩
  | .hbm, ⟨24, _⟩ => ⟨S8x1024x1, .f32⟩
  | .hbm, ⟨25, _⟩ => ⟨S8x1024x1024, .f32⟩
  | .hbm, ⟨26, _⟩ => ⟨S8x1024x1024, .f32⟩
  | .hbm, ⟨27, _⟩ => ⟨S1x1x1024, .f32⟩
  | .hbm, ⟨28, _⟩ => ⟨S8x1024x1024, .f32⟩
  | .hbm, ⟨29, _⟩ => ⟨S8x1024x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x1024x1024, .f32⟩
  | .hbm, ⟨34, _⟩ => ⟨S8x1024x1024, .f32⟩
  | .hbm, ⟨35, _⟩ => ⟨S8x1024x1024, .f32⟩
  | .hbm, ⟨36, _⟩ => ⟨S8x1024x1024, .f32⟩
  | .hbm, ⟨37, _⟩ => ⟨S8x1024x5632, .f32⟩
  | .hbm, ⟨38, _⟩ => ⟨S8x1024x2816, .f32⟩
  | .hbm, ⟨39, _⟩ => ⟨S8x1024x2816, .f32⟩
  | .hbm, ⟨40, _⟩ => ⟨S8x1024x2816, .f32⟩
  | .hbm, ⟨41, _⟩ => ⟨S8x1024x2816, .f32⟩
  | .hbm, ⟨42, _⟩ => ⟨S_, .f32⟩
  | .hbm, ⟨43, _⟩ => ⟨S8x1024x2816, .f32⟩
  | .hbm, ⟨44, _⟩ => ⟨S8x1024x2816, .f32⟩
  | .hbm, ⟨45, _⟩ => ⟨S_, .f32⟩
  | .hbm, ⟨46, _⟩ => ⟨S8x1024x2816, .f32⟩
  | .hbm, ⟨47, _⟩ => ⟨S8x1024x2816, .f32⟩
  | .hbm, ⟨48, _⟩ => ⟨S8x1024x2816, .f32⟩
  | .hbm, ⟨49, _⟩ => ⟨S8x1024x2816, .f32⟩
  | .hbm, ⟨50, _⟩ => ⟨S8x1024x1024, .f32⟩
  | .hbm, ⟨51, _⟩ => ⟨S8x1024x1024, .f32⟩
  | .hbm, ⟨52, _⟩ => ⟨S8x1024x1024, .f32⟩
  | .hbm, ⟨53, _⟩ => ⟨S8x1024x1024, .f32⟩
  | .hbm, ⟨54, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel3.lean ====
abbrev S8x1024x1024 : Shape := ⟨3, ![8, 1024, 1024]⟩
abbrev S16x6x1024 : Shape := ⟨3, ![16, 6, 1024]⟩
abbrev S1024 : Shape := ⟨1, ![1024]⟩
abbrev S8192x512 : Shape := ⟨2, ![8192, 512]⟩
abbrev S8192x256 : Shape := ⟨2, ![8192, 256]⟩
abbrev S1024x5392 : Shape := ⟨2, ![1024, 5392]⟩
abbrev S512x1024 : Shape := ⟨2, ![512, 1024]⟩
abbrev S256x1024 : Shape := ⟨2, ![256, 1024]⟩
abbrev S1024x1024 : Shape := ⟨2, ![1024, 1024]⟩
abbrev S8192x1024 : Shape := ⟨2, ![8192, 1024]⟩
abbrev S1024x3072 : Shape := ⟨2, ![1024, 3072]⟩
abbrev S1x1024 : Shape := ⟨2, ![1, 1024]⟩
abbrev S1x6x1024 : Shape := ⟨3, ![1, 6, 1024]⟩
abbrev S512x512 : Shape := ⟨2, ![512, 512]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 18
  | .smem => 0
  | _ => 0

abbrev bufTy : (tb : Table) → Fin (tcTables nBuf tb) → BufTy
  | .hbm, ⟨0, _⟩ => ⟨S8x1024x1024, .f32⟩
  | .hbm, ⟨1, _⟩ => ⟨S16x6x1024, .f32⟩
  | .hbm, ⟨2, _⟩ => ⟨S1024, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S1024x5392, .f32⟩
  | .hbm, ⟨7, _⟩ => ⟨S512x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S8192x1024, .f32⟩
  | .hbm, ⟨12, _⟩ => ⟨S1024x3072, .f32⟩
  | .hbm, ⟨13, _⟩ => ⟨S1024x3072, .bf16⟩
  | .hbm, ⟨14, _⟩ => ⟨S1x1024, .f32⟩
  | .hbm, ⟨15, _⟩ => ⟨S512x1024, .bf16⟩
  | .hbm, ⟨16, _⟩ => ⟨S256x1024, .bf16⟩
  | .hbm, ⟨17, _⟩ => ⟨S256x1024, .bf16⟩
  | .hbm, ⟨18, _⟩ => ⟨S1024x1024, .bf16⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S512x512, .f32⟩
  | .local _ .vmem, ⟨6, _⟩ => ⟨S512x512, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S1024x3072, .bf16⟩
  | .local _ .vmem, ⟨12, _⟩ => ⟨S512x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x1024x1024 : Shape := ⟨3, ![8, 1024, 1024]⟩
abbrev S16x6x1024 : Shape := ⟨3, ![16, 6, 1024]⟩
abbrev S1024 : Shape := ⟨1, ![1024]⟩
abbrev S8192x512 : Shape := ⟨2, ![8192, 512]⟩
abbrev S8192x256 : Shape := ⟨2, ![8192, 256]⟩
abbrev S1024x5392 : Shape := ⟨2, ![1024, 5392]⟩
abbrev S512x1024 : Shape := ⟨2, ![512, 1024]⟩
abbrev S256x1024 : Shape := ⟨2, ![256, 1024]⟩
abbrev S1024x1024 : Shape := ⟨2, ![1024, 1024]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩
abbrev S1024x3072 : Shape := ⟨2, ![1024, 3072]⟩
abbrev S8x1024x3072 : Shape := ⟨3, ![8, 1024, 3072]⟩
abbrev S8x1024x512 : Shape := ⟨3, ![8, 1024, 512]⟩
abbrev S8x1024x256 : Shape := ⟨3, ![8, 1024, 256]⟩
abbrev S8192x1024 : Shape := ⟨2, ![8192, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S16x6x1024, .f32⟩
  | .hbm, ⟨2, _⟩ => ⟨S1024, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S1024x5392, .f32⟩
  | .hbm, ⟨7, _⟩ => ⟨S512x1024, .f32⟩
  | .hbm, ⟨8, _⟩ => ⟨S256x1024, .f32⟩
  | .hbm, ⟨9, _⟩ => ⟨S256x1024, .f32⟩
  | .hbm, ⟨10, _⟩ => ⟨S1024x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1024x1024, .f32⟩
  | .hbm, ⟨21, _⟩ => ⟨S_, .f32⟩
  | .hbm, ⟨22, _⟩ => ⟨S8x1024, .f32⟩
  | .hbm, ⟨23, _⟩ => ⟨S8x1024x1, .f32⟩
  | .hbm, ⟨24, _⟩ => ⟨S_, .f32⟩
  | .hbm, ⟨25, _⟩ => ⟨S8x1024x1, .f32⟩
  | .hbm, ⟨26, _⟩ => ⟨S8x1024x1, .f32⟩
  | .hbm, ⟨27, _⟩ => ⟨S_, .f32⟩
  | .hbm, ⟨28, _⟩ => ⟨S8x1024x1, .f32⟩
  | .hbm, ⟨29, _⟩ => ⟨S8x1024x1, .f32⟩
  | .hbm, ⟨30, _⟩ => ⟨S8x1024x1, .f32⟩
  | .hbm, ⟨31, _⟩ => ⟨S8x1024x1024, .f32⟩
  | .hbm, ⟨32, _⟩ => ⟨S8x1024x1024, .f32⟩
  | .hbm, ⟨33, _⟩ => ⟨S1x1x1024, .f32⟩
  | .hbm, ⟨34, _⟩ => ⟨S8x1024x1024, .f32⟩
  | .hbm, ⟨35, _⟩ => ⟨S8x1024x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S8x1024x1024, .f32⟩
  | .hbm, ⟨43, _⟩ => ⟨S1024x3072, .f32⟩
  | .hbm, ⟨44, _⟩ => ⟨S8x1024x3072, .f32⟩
  | .hbm, ⟨45, _⟩ => ⟨S8x1024x3072, .f32⟩
  | .hbm, ⟨46, _⟩ => ⟨S8x1024x3072, .f32⟩
  | .hbm, ⟨47, _⟩ => ⟨S_, .f32⟩
  | .hbm, ⟨48, _⟩ => ⟨S8x1024x3072, .f32⟩
  | .hbm, ⟨49, _⟩ => ⟨S8x1024x3072, .f32⟩
  | .hbm, ⟨50, _⟩ => ⟨S_, .f32⟩
  | .hbm, ⟨51, _⟩ => ⟨S8x1024x3072, .f32⟩
  | .hbm, ⟨52, _⟩ => ⟨S8x1024x3072, .f32⟩
  | .hbm, ⟨53, _⟩ => ⟨S8x1024x1024, .f32⟩
  | .hbm, ⟨54, _⟩ => ⟨S8x1024x1024, .f32⟩
  | .hbm, ⟨55, _⟩ => ⟨S8x1024x1024, .f32⟩
  | .hbm, ⟨56, _⟩ => ⟨S8x1024x512, .f32⟩
  | .hbm, ⟨57, _⟩ => ⟨S8x1024x256, .f32⟩
  | .hbm, ⟨58, _⟩ => ⟨S8x1024x256, .f32⟩
  | .hbm, ⟨59, _⟩ => ⟨S8x1024x1024, .f32⟩
  | .hbm, ⟨60, _⟩ => ⟨S8x1024x1024, .f32⟩
  | .hbm, ⟨61, _⟩ => ⟨S8x1024x1024, .f32⟩
  | .hbm, ⟨62, _⟩ => ⟨S8x1024x1024, .f32⟩
  | .hbm, ⟨63, _⟩ => ⟨S8x1024x1024, .f32⟩
  | .hbm, ⟨64, _⟩ => ⟨S8x1024x1024, .f32⟩
  | .hbm, ⟨65, _⟩ => ⟨S8x1024x1024, .f32⟩
  | .hbm, ⟨66, _⟩ => ⟨S8x1024x1024, .f32⟩
  | .hbm, ⟨67, _⟩ => ⟨S8x1024x1024, .f32⟩
  | .hbm, ⟨68, _⟩ => ⟨S8x1024x1024, .f32⟩
  | .hbm, ⟨69, _⟩ => ⟨S8x1024x1024, .f32⟩
  | .hbm, ⟨70, _⟩ => ⟨S8x1024x1024, .f32⟩
  | .hbm, ⟨71, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Kernel4.lean ====
abbrev S8x1024x1024 : Shape := ⟨3, ![8, 1024, 1024]⟩
abbrev S16x6x1024 : Shape := ⟨3, ![16, 6, 1024]⟩
abbrev S1024 : Shape := ⟨1, ![1024]⟩
abbrev S1024x5392 : Shape := ⟨2, ![1024, 5392]⟩
abbrev S8192x1024 : Shape := ⟨2, ![8192, 1024]⟩
abbrev S1024x2048 : Shape := ⟨2, ![1024, 2048]⟩
abbrev S1024x256 : Shape := ⟨2, ![1024, 256]⟩
abbrev S1024x16 : Shape := ⟨2, ![1024, 16]⟩
abbrev S_ : Shape := ⟨0, ![]⟩
abbrev S1024x112 : Shape := ⟨2, ![1024, 112]⟩
abbrev S1024x2432 : Shape := ⟨2, ![1024, 2432]⟩
abbrev S1x1024 : Shape := ⟨2, ![1, 1024]⟩
abbrev S8192x256 : Shape := ⟨2, ![8192, 256]⟩
abbrev S8192x128 : Shape := ⟨2, ![8192, 128]⟩
abbrev S512x1024 : Shape := ⟨2, ![512, 1024]⟩
abbrev S1x6x1024 : Shape := ⟨3, ![1, 6, 1024]⟩
abbrev S512x256 : Shape := ⟨2, ![512, 256]⟩
abbrev S512x128 : Shape := ⟨2, ![512, 128]⟩
abbrev S1x1x1024 : Shape := ⟨3, ![1, 1, 1024]⟩
abbrev S512 : Shape := ⟨1, ![512]⟩
abbrev S512x1 : Shape := ⟨2, ![512, 1]⟩
abbrev S512x2432 : Shape := ⟨2, ![512, 2432]⟩

abbrev nBuf : Space → Nat
  | .hbm => 17
  | .vmem => 14
  | .smem => 0
  | _ => 0

abbrev bufTy : (tb : Table) → Fin (tcTables nBuf tb) → BufTy
  | .hbm, ⟨0, _⟩ => ⟨S8x1024x1024, .f32⟩
  | .hbm, ⟨1, _⟩ => ⟨S16x6x1024, .f32⟩
  | .hbm, ⟨2, _⟩ => ⟨S1024, .f32⟩
  | .hbm, ⟨3, _⟩ => ⟨S1024x5392, .f32⟩
  | .hbm, ⟨4, _⟩ => ⟨S8192x1024, .f32⟩
  | .hbm, ⟨5, _⟩ => ⟨S1024x2048, .f32⟩
  | .hbm, ⟨6, _⟩ => ⟨S1024x256, .f32⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x2432, .f32⟩
  | .hbm, ⟨11, _⟩ => ⟨S1024x2432, .bf16⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x256, .f32⟩
  | .hbm, ⟨16, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2432, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x1024x1024 : Shape := ⟨3, ![8, 1024, 1024]⟩
abbrev S16x6x1024 : Shape := ⟨3, ![16, 6, 1024]⟩
abbrev S1024 : Shape := ⟨1, ![1024]⟩
abbrev S1024x5392 : Shape := ⟨2, ![1024, 5392]⟩
abbrev S8x1x1024 : Shape := ⟨3, ![8, 1, 1024]⟩
abbrev S8x1024 : Shape := ⟨2, ![8, 1024]⟩
abbrev S_ : Shape := ⟨0, ![]⟩
abbrev S8x1024x1 : Shape := ⟨3, ![8, 1024, 1]⟩
abbrev S1x1x1024 : Shape := ⟨3, ![1, 1, 1024]⟩
abbrev S8x1024x5392 : Shape := ⟨3, ![8, 1024, 5392]⟩
abbrev S8192x5392 : Shape := ⟨2, ![8192, 5392]⟩
abbrev S8192x512 : Shape := ⟨2, ![8192, 512]⟩
abbrev S8192x256 : Shape := ⟨2, ![8192, 256]⟩
abbrev S8192x16 : Shape := ⟨2, ![8192, 16]⟩
abbrev S8192x3072 : Shape := ⟨2, ![8192, 3072]⟩
abbrev S8192x128 : Shape := ⟨2, ![8192, 128]⟩
abbrev S8192x1024 : Shape := ⟨2, ![8192, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S16x6x1024, .f32⟩
  | .hbm, ⟨2, _⟩ => ⟨S1024, .f32⟩
  | .hbm, ⟨3, _⟩ => ⟨S1024x5392, .f32⟩
  | .hbm, ⟨4, _⟩ => ⟨S8x1x1024, .f32⟩
  | .hbm, ⟨5, _⟩ => ⟨S8x1024, .f32⟩
  | .hbm, ⟨6, _⟩ => ⟨S8x1x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S8x1024x1024, .f32⟩
  | .hbm, ⟨11, _⟩ => ⟨S_, .f32⟩
  | .hbm, ⟨12, _⟩ => ⟨S8x1024, .f32⟩
  | .hbm, ⟨13, _⟩ => ⟨S8x1024x1, .f32⟩
  | .hbm, ⟨14, _⟩ => ⟨S_, .f32⟩
  | .hbm, ⟨15, _⟩ => ⟨S8x1024x1, .f32⟩
  | .hbm, ⟨16, _⟩ => ⟨S8x1024x1, .f32⟩
  | .hbm, ⟨17, _⟩ => ⟨S_, .f32⟩
  | .hbm, ⟨18, _⟩ => ⟨S8x1024x1, .f32⟩
  | .hbm, ⟨19, _⟩ => ⟨S8x1024x1, .f32⟩
  | .hbm, ⟨20, _⟩ => ⟨S8x1024x1, .f32⟩
  | .hbm, ⟨21, _⟩ => ⟨S8x1024x1024, .f32⟩
  | .hbm, ⟨22, _⟩ => ⟨S8x1024x1024, .f32⟩
  | .hbm, ⟨23, _⟩ => ⟨S1x1x1024, .f32⟩
  | .hbm, ⟨24, _⟩ => ⟨S8x1024x1024, .f32⟩
  | .hbm, ⟨25, _⟩ => ⟨S8x1024x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x1024x1024, .f32⟩
  | .hbm, ⟨30, _⟩ => ⟨S8x1024x1024, .f32⟩
  | .hbm, ⟨31, _⟩ => ⟨S8x1024x1024, .f32⟩
  | .hbm, ⟨32, _⟩ => ⟨S8x1024x1024, .f32⟩
  | .hbm, ⟨33, _⟩ => ⟨S8x1024x5392, .f32⟩
  | .hbm, ⟨34, _⟩ => ⟨S8192x5392, .f32⟩
  | .hbm, ⟨35, _⟩ => ⟨S8192x512, .f32⟩
  | .hbm, ⟨36, _⟩ => ⟨S8192x256, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x16, .f32⟩
  | .hbm, ⟨43, _⟩ => ⟨S8192x256, .f32⟩
  | .hbm, ⟨44, _⟩ => ⟨S8192x3072, .f32⟩
  | .hbm, ⟨45, _⟩ => ⟨S_, .i32⟩
  | .hbm, ⟨46, _⟩ => ⟨S_, .f32⟩
  | .hbm, ⟨47, _⟩ => ⟨S8192x128, .f32⟩
  | .hbm, ⟨48, _⟩ => ⟨S8192x1024, .f32⟩
  | .hbm, ⟨49, _⟩ => ⟨S8192x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_call0_v0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel.lean ====
abbrev S4096x1024 : Shape := ⟨2, ![4096, 1024]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S_ : Shape := ⟨0, ![]⟩
abbrev S512x1 : Shape := ⟨2, ![512, 1]⟩
abbrev S512x512 : Shape := ⟨2, ![512, 512]⟩
abbrev S256x1 : Shape := ⟨2, ![256, 1]⟩
abbrev S256x256 : Shape := ⟨2, ![256, 256]⟩
abbrev S4096x512 : Shape := ⟨2, ![4096, 512]⟩
abbrev S4096x256 : Shape := ⟨2, ![4096, 256]⟩
abbrev S256x512 : Shape := ⟨2, ![256, 512]⟩
abbrev S4x256x64 : Shape := ⟨3, ![4, 256, 64]⟩
abbrev S256x64 : Shape := ⟨2, ![256, 64]⟩
abbrev S1x256x64 : Shape := ⟨3, ![1, 256, 64]⟩
abbrev S512x64 : Shape := ⟨2, ![512, 64]⟩
abbrev S512x256 : Shape := ⟨2, ![512, 256]⟩

abbrev nBuf : Space → Nat
  | .hbm => 44
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S8x64, .f32⟩
  | .hbm, ⟨5, _⟩ => ⟨S512, .f32⟩
  | .hbm, ⟨6, _⟩ => ⟨S1x512, .f32⟩
  | .hbm, ⟨7, _⟩ => ⟨S1x64, .f32⟩
  | .hbm, ⟨8, _⟩ => ⟨S4x64, .f32⟩
  | .hbm, ⟨9, _⟩ => ⟨S256, .f32⟩
  | .hbm, ⟨10, _⟩ => ⟨S1x256, .f32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512x1, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S_, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .bf16⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S1x256, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S_, .f32⟩
  | .hbm, ⟨36, _⟩ => ⟨S_, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S256x256, .bf16⟩
  | .hbm, ⟨41, _⟩ => ⟨S4096x512, .f32⟩
  | .hbm, ⟨42, _⟩ => ⟨S4096x256, .f32⟩
  | .hbm, ⟨43, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x512, .f32⟩
  | .local _ .vmem, ⟨7, _⟩ => ⟨S1x256, .f32⟩
  | .local _ .vmem, ⟨8, _⟩ => ⟨S512x512, .bf16⟩
  | .local _ .vmem, ⟨9, _⟩ => ⟨S256x256, .bf16⟩
  | .local _ .vmem, ⟨10, _⟩ => ⟨S256x512, .f32⟩
  | .local _ .vmem, ⟨11, _⟩ => ⟨S256x512, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S4x256x64, .bf16⟩
  | .local _ .vmem, ⟨17, _⟩ => ⟨S4x256x64, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4096x1024 : Shape := ⟨2, ![4096, 1024]⟩
abbrev S64 : Shape := ⟨1, ![64]⟩
abbrev S16x256x1024 : Shape := ⟨3, ![16, 256, 1024]⟩
abbrev S16x256x512 : Shape := ⟨3, ![16, 256, 512]⟩
abbrev S16x256x256 : Shape := ⟨3, ![16, 256, 256]⟩
abbrev S16x256x8x64 : Shape := ⟨4, ![16, 256, 8, 64]⟩
abbrev S_ : Shape := ⟨0, ![]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x256x4x64 : Shape := ⟨4, ![16, 256, 4, 64]⟩
abbrev S16x256x4 : Shape := ⟨3, ![16, 256, 4]⟩
abbrev S16x256x4x1 : Shape := ⟨4, ![16, 256, 4, 1]⟩
abbrev S16x256x4x2x64 : Shape := ⟨5, ![16, 256, 4, 2, 64]⟩
abbrev S16x4x256x256x2 : Shape := ⟨5, ![16, 4, 256, 256, 2]⟩
abbrev S16x4x2x256x256 : Shape := ⟨5, ![16, 4, 2, 256, 256]⟩
abbrev S16x4x2x256 : Shape := ⟨4, ![16, 4, 2, 256]⟩
abbrev S16x4x2x256x1 : Shape := ⟨5, ![16, 4, 2, 256, 1]⟩
abbrev S16x4x64x2x256 : Shape := ⟨5, ![16, 4, 64, 2, 256]⟩
abbrev S4096x512 : Shape := ⟨2, ![4096, 512]⟩
abbrev S4096x256 : Shape := ⟨2, ![4096, 256]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S64, .f32⟩
  | .hbm, ⟨2, _⟩ => ⟨S64, .f32⟩
  | .hbm, ⟨3, _⟩ => ⟨S16x256x1024, .f32⟩
  | .hbm, ⟨4, _⟩ => ⟨S16x256x512, .f32⟩
  | .hbm, ⟨5, _⟩ => ⟨S16x256x256, .f32⟩
  | .hbm, ⟨6, _⟩ => ⟨S16x256x256, .f32⟩
  | .hbm, ⟨7, _⟩ => ⟨S16x256x8x64, .f32⟩
  | .hbm, ⟨8, _⟩ => ⟨S16x256x8x64, .f32⟩
  | .hbm, ⟨9, _⟩ => ⟨S_, .f32⟩
  | .hbm, ⟨10, _⟩ => ⟨S16x256x8, .f32⟩
  | .hbm, ⟨11, _⟩ => ⟨S16x256x8x1, .f32⟩
  | .hbm, ⟨12, _⟩ => ⟨S_, .f32⟩
  | .hbm, ⟨13, _⟩ => ⟨S16x256x8x1, .f32⟩
  | .hbm, ⟨14, _⟩ => ⟨S16x256x8x1, .f32⟩
  | .hbm, ⟨15, _⟩ => ⟨S_, .f32⟩
  | .hbm, ⟨16, _⟩ => ⟨S16x256x8x1, .f32⟩
  | .hbm, ⟨17, _⟩ => ⟨S16x256x8x1, .f32⟩
  | .hbm, ⟨18, _⟩ => ⟨S16x256x8x1, .f32⟩
  | .hbm, ⟨19, _⟩ => ⟨S16x256x8x64, .f32⟩
  | .hbm, ⟨20, _⟩ => ⟨S16x256x8x64, .f32⟩
  | .hbm, ⟨21, _⟩ => ⟨S1x1x1x64, .f32⟩
  | .hbm, ⟨22, _⟩ => ⟨S16x256x8x64, .f32⟩
  | .hbm, ⟨23, _⟩ => ⟨S16x256x8x64, .f32⟩
  | .hbm, ⟨24, _⟩ => ⟨S16x256x4x64, .f32⟩
  | .hbm, ⟨25, _⟩ => ⟨S16x256x4x64, .f32⟩
  | .hbm, ⟨26, _⟩ => ⟨S_, .f32⟩
  | .hbm, ⟨27, _⟩ => ⟨S16x256x4, .f32⟩
  | .hbm, ⟨28, _⟩ => ⟨S16x256x4x1, .f32⟩
  | .hbm, ⟨29, _⟩ => ⟨S_, .f32⟩
  | .hbm, ⟨30, _⟩ => ⟨S16x256x4x1, .f32⟩
  | .hbm, ⟨31, _⟩ => ⟨S16x256x4x1, .f32⟩
  | .hbm, ⟨32, _⟩ => ⟨S_, .f32⟩
  | .hbm, ⟨33, _⟩ => ⟨S16x256x4x1, .f32⟩
  | .hbm, ⟨34, _⟩ => ⟨S16x256x4x1, .f32⟩
  | .hbm, ⟨35, _⟩ => ⟨S16x256x4x1, .f32⟩
  | .hbm, ⟨36, _⟩ => ⟨S16x256x4x64, .f32⟩
  | .hbm, ⟨37, _⟩ => ⟨S16x256x4x64, .f32⟩
  | .hbm, ⟨38, _⟩ => ⟨S1x1x1x64, .f32⟩
  | .hbm, ⟨39, _⟩ => ⟨S16x256x4x64, .f32⟩
  | .hbm, ⟨40, _⟩ => ⟨S16x256x4x64, .f32⟩
  | .hbm, ⟨41, _⟩ => ⟨S16x256x4x64, .f32⟩
  | .hbm, ⟨42, _⟩ => ⟨S16x256x4x2x64, .f32⟩
  | .hbm, ⟨43, _⟩ => ⟨S16x4x256x256x2, .f32⟩
  | .hbm, ⟨44, _⟩ => ⟨S16x4x2x256x256, .f32⟩
  | .hbm, ⟨45, _⟩ => ⟨S_, .f32⟩
  | .hbm, ⟨46, _⟩ => ⟨S16x4x2x256x256, .f32⟩
  | .hbm, ⟨47, _⟩ => ⟨S16x4x2x256x256, .f32⟩
  | .hbm, ⟨48, _⟩ => ⟨S_, .f32⟩
  | .hbm, ⟨49, _⟩ => ⟨S16x4x2x256, .f32⟩
  | .hbm, ⟨50, _⟩ => ⟨S_, .f32⟩
  | .hbm, ⟨51, _⟩ => ⟨S16x4x2x256, .f32⟩
  | .hbm, ⟨52, _⟩ => ⟨S16x4x2x256, .f32⟩
  | .hbm, ⟨53, _⟩ => ⟨S16x4x2x256x1, .f32⟩
  | .hbm, ⟨54, _⟩ => ⟨S16x4x2x256x256, .f32⟩
  | .hbm, ⟨55, _⟩ => ⟨S16x4x2x256x256, .f32⟩
  | .hbm, ⟨56, _⟩ => ⟨S16x4x2x256x256, .f32⟩
  | .hbm, ⟨57, _⟩ => ⟨S_, .f32⟩
  | .hbm, ⟨58, _⟩ => ⟨S16x4x2x256, .f32⟩
  | .hbm, ⟨59, _⟩ => ⟨S16x4x2x256x1, .f32⟩
  | .hbm, ⟨60, _⟩ => ⟨S16x4x2x256x256, .f32⟩
  | .hbm, ⟨61, _⟩ => ⟨S16x4x2x256x256, .f32⟩
  | .hbm, ⟨62, _⟩ => ⟨S16x4x64x2x256, .f32⟩
  | .hbm, ⟨63, _⟩ => ⟨S16x256x4x2x64, .f32⟩
  | .hbm, ⟨64, _⟩ => ⟨S16x256x512, .f32⟩
  | .hbm, ⟨65, _⟩ => ⟨S4096x512, .f32⟩
  | .hbm, ⟨66, _⟩ => ⟨S4096x256, .f32⟩
  | .hbm, ⟨67, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel5.lean ====
abbrev S16x256x1024 : Shape := ⟨3, ![16, 256, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 10
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S16x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16x256x1024 : Shape := ⟨3, ![16, 256, 1024]⟩
abbrev S16x6x1024 : Shape := ⟨3, ![16, 6, 1024]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S4096x1024 : Shape := ⟨2, ![4096, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x6x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1x1024, .f32⟩
  | .hbm, ⟨6, _⟩ => ⟨S1024, .f32⟩
  | .hbm, ⟨7, _⟩ => ⟨S1x1x1024, .f32⟩
  | .hbm, ⟨8, _⟩ => ⟨S1024, .f32⟩
  | .hbm, ⟨9, _⟩ => ⟨S1x1x1024, .f32⟩
  | .hbm, ⟨10, _⟩ => ⟨S1024, .f32⟩
  | .hbm, ⟨11, _⟩ => ⟨S16x256x1024, .f32⟩
  | .hbm, ⟨12, _⟩ => ⟨S_, .f32⟩
  | .hbm, ⟨13, _⟩ => ⟨S16x256, .f32⟩
  | .hbm, ⟨14, _⟩ => ⟨S16x256x1, .f32⟩
  | .hbm, ⟨15, _⟩ => ⟨S_, .f32⟩
  | .hbm, ⟨16, _⟩ => ⟨S16x256x1, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S16x256x1, .f32⟩
  | .hbm, ⟨22, _⟩ => ⟨S16x256x1024, .f32⟩
  | .hbm, ⟨23, _⟩ => ⟨S16x256x1024, .f32⟩
  | .hbm, ⟨24, _⟩ => ⟨S1x1x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S1x1x1024, .f32⟩
  | .hbm, ⟨34, _⟩ => ⟨S16x256x1024, .f32⟩
  | .hbm, ⟨35, _⟩ => ⟨S16x256x1024, .f32⟩
  | .hbm, ⟨36, _⟩ => ⟨S16x256x5632, .f32⟩
  | .hbm, ⟨37, _⟩ => ⟨S16x256x2816, .f32⟩
  | .hbm, ⟨38, _⟩ => ⟨S16x256x2816, .f32⟩
  | .hbm, ⟨39, _⟩ => ⟨S16x256x2816, .f32⟩
  | .hbm, ⟨40, _⟩ => ⟨S16x256x2816, .f32⟩
  | .hbm, ⟨41, _⟩ => ⟨S_, .f32⟩
  | .hbm, ⟨42, _⟩ => ⟨S16x256x2816, .f32⟩
  | .hbm, ⟨43, _⟩ => ⟨S16x256x2816, .f32⟩
  | .hbm, ⟨44, _⟩ => ⟨S_, .f32⟩
  | .hbm, ⟨45, _⟩ => ⟨S16x256x2816, .f32⟩
  | .hbm, ⟨46, _⟩ => ⟨S16x256x2816, .f32⟩
  | .hbm, ⟨47, _⟩ => ⟨S16x256x2816, .f32⟩
  | .hbm, ⟨48, _⟩ => ⟨S16x256x2816, .f32⟩
  | .hbm, ⟨49, _⟩ => ⟨S16x256x1024, .f32⟩
  | .hbm, ⟨50, _⟩ => ⟨S1x1x1024, .f32⟩
  | .hbm, ⟨51, _⟩ => ⟨S16x256x1024, .f32⟩
  | .hbm, ⟨52, _⟩ => ⟨S16x256x1024, .f32⟩
  | .hbm, ⟨53, _⟩ => ⟨S16x256x1024, .f32⟩
  | .hbm, ⟨54, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Kernel6.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x512 : Shape := ⟨3, ![1, 1024, 512]⟩
abbrev S1x1x512 : Shape := ⟨3, ![1, 1, 512]⟩
abbrev S1x16x512 : Shape := ⟨3, ![1, 16, 512]⟩
abbrev S1024x512 : Shape := ⟨2, ![1024, 512]⟩
abbrev S16x512 : Shape := ⟨2, ![16, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S16x2x6144 : Shape := ⟨3, ![16, 2, 6144]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x2x6144, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.FfnValue.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem
open Idealize.ShloMosaic.Pipeline (Dat)
namespace Cert.Kernel2Ideal.Ffn
open Cert.Kernel2Ideal Cert.Kernel2Ideal.Gen Cert.Reference2Ideal.Read

variable (m : (ℓ : Loc nD τ sig) → Buf (Elt Ideal) ℓ)

/-- The block indices of every window at point `t`: the row windows at tile `t`, the modulation at the
    batch entry of the tile (its first row is the context's), the weights whole. -/
theorem idx : ∀ t : Fin cfg0.N, win0_0.index t = ![t.val, 0] ∧ win0_1.index t = ![1 + t.val / 4, 0, 0] ∧
    win0_2.index t = ![0, 0] ∧ win0_3.index t = ![0, 0] ∧ win0_4.index t = ![0, 0] ∧ win0_5.index t = ![t.val, 0] :=
  (by decide +kernel : ∀ t : Fin grid0.N, _)

/-- The reference's result. -/
abbrev REF (X : FVec Ideal Cert.Reference2Ideal.S8x1024x1024 .f32) (M : FVec Ideal Cert.Reference2Ideal.S16x6x1024 .f32)
    (g : FVec Ideal Cert.Reference2Ideal.S1024 .f32) (Wi : FVec Ideal Cert.Reference2Ideal.S1024x5632 .f32)
    (Wo : FVec Ideal Cert.Reference2Ideal.S2816x1024 .f32) : FVec Ideal Cert.Reference2Ideal.S8192x1024 .f32 :=
  val_main_v37 (F := Ideal) X M g Wi Wo

/-- The batch entry the rows of tile `t` belong to. -/
abbrev bat (t : Fin cfg0.N) : Fin 8 := ⟨t.val / 4, by have : t.val < 32 := t.isLt; omega⟩
/-- The row of tile `t` at offset `r` within its batch entry. -/
abbrev pos (t : Fin cfg0.N) (r : Fin 256) : Fin 1024 := ⟨t.val % 4 * 256 + r.val, by omega⟩

/-- A tile of the block's input, read at an element. -/
theorem x_blk (c : Dev nD) (t : Fin cfg0.N) (r : Fin 256) (k : Fin 1024) :
    iblk m c 0 t (ix2 r k) = m ((c : Thread nD τ).loc main_arg0) (ix3 (bat t) (pos t r) k) := by
  blk_point [iblk, V, idx t]
/-- The modulation block, read at an element. -/
theorem mod_blk (c : Dev nD) (t : Fin cfg0.N) (a : Fin 6) (k : Fin 1024) :
    iblk m c 1 t (ix3 0 a k) = m ((c : Thread nD τ).loc main_arg1) (ix3 ⟨1 + t.val / 4, by have : t.val < 32 := t.isLt; omega⟩ a k) := by
  blk_point [iblk, V, idx t]
/-- The norm's gains, read at an element. -/
theorem g_blk (c : Dev nD) (t : Fin cfg0.N) (k : Fin 1024) :
    iblk m c 2 t (ix2 0 k) = m ((c : Thread nD τ).loc main_arg2) (ix1 k) := by
  blk_point [iblk, V, idx t]
/-- The first weight, read at an element. -/
theorem wi_blk (c : Dev nD) (t : Fin cfg0.N) (k : Fin 1024) (l : Fin 5632) :
    iblk m c 3 t (ix2 k l) = m ((c : Thread nD τ).loc main_arg3) (ix2 k l) := by
  blk_point [iblk, V, idx t]
/-- The second weight, read at an element. -/
theorem wo_blk (c : Dev nD) (t : Fin cfg0.N) (k : Fin 2816) (l : Fin 1024) :
    iblk m c 4 t (ix2 k l) = m ((c : Thread nD τ).loc main_arg4) (ix2 k l) := by
  blk_point [iblk, V, idx t]

/-- The tile's hidden row, before the activation, is the reference's. -/
theorem hid (c : Dev nD) (t : Fin cfg0.N) (r : Fin 256) (l : Fin 5632) :
    k0_pay3 (View.ld (iblk m c 0 t) r0_0) (View.ld (iblk m c 2 t) r0_1) (View.ld (iblk m c 1 t) r0_2)
      (View.ld (iblk m c 1 t) r0_3) (View.ld (iblk m c 3 t) r0_4) (ix2 r l)
    = val_main_v28 (F := Ideal) (m ((c : Thread nD τ).loc main_arg0)) (m ((c : Thread nD τ).loc main_arg1))
        (m ((c : Thread nD τ).loc main_arg2)) (m ((c : Thread nD τ).loc main_arg3)) (ix3 (bat t) (pos t r) l) := by
  pointwise [k0_pay2, k0_pay3, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v5, val_main_v4, val_main_v3, val_main_v2, val_main_v1, val_main_v0, val_main_cst, val_main_cst_0, val_main_cst_1, val_main_cst_2]
  refine Finset.sum_congr rfl fun k _ => ?_
  have hx := fun k => x_blk m c t r k
  have hm := fun a k => mod_blk m c t a k
  have hg := fun k => g_blk m c t k
  have hw := fun k l => wi_blk m c t k l
  simp only [hx, hm, hg, hw]
  done

/-- The tile's result, element by element, is the reference's before its last reshape. -/
theorem point (c : Dev nD) (t : Fin cfg0.N) (r : Fin 256) (l : Fin 1024) :
    out0_5 (iblk m c 0 t) (iblk m c 1 t) (iblk m c 2 t) (iblk m c 3 t) (iblk m c 4 t) (ix2 r l)
    = val_main_v36 (F := Ideal) (m ((c : Thread nD τ).loc main_arg0)) (m ((c : Thread nD τ).loc main_arg1)) (m ((c : Thread nD τ).loc main_arg2))
       (m ((c : Thread nD τ).loc main_arg3)) (m ((c : Thread nD τ).loc main_arg4)) (ix3 (bat t) (pos t r) l) := by
  unfold out0_5
  rw [View.canon_unit_zero (show (![0, 0] : Fin 2 → Nat) = fun _ => 0 from funext fun a => by fin_cases a <;> rfl)]
  unfold k0_pay4
  have hh := fun l => hid m c t r l
  generalize k0_pay3 (View.ld (iblk m c 0 t) r0_0) (View.ld (iblk m c 2 t) r0_1) (View.ld (iblk m c 1 t) r0_2)
      (View.ld (iblk m c 1 t) r0_3) (View.ld (iblk m c 3 t) r0_4) = H at hh ⊢
  pointwise [k0_pay1, k0_pay2, val_main_v36, val_main_v35, val_main_v34, val_main_v33, val_main_v32, val_main_v31, val_main_call0_v5, val_main_call0_v4, val_main_call0_cst_0, val_main_call0_v3, val_main_call0_v2, val_main_call0_cst, val_main_call0_v1, val_main_call0_v0, val_main_v30, val_main_v29, val_main_v8, val_main_v7, val_main_v6]
  have hx := fun k => x_blk m c t r k
  have hm := fun a k => mod_blk m c t a k
  have hw := fun k l => wo_blk m c t k l
  simp only [hx, hm, hw, hh, zero_sub]

/-- The reference's last reshape: row `R` is position `R % 1024` of batch entry `R / 1024`. -/
theorem v37_at (X : FVec Ideal Cert.Reference2Ideal.S8x1024x1024 .f32) (M : FVec Ideal Cert.Reference2Ideal.S16x6x1024 .f32)
    (g : FVec Ideal Cert.Reference2Ideal.S1024 .f32) (Wi : FVec Ideal Cert.Reference2Ideal.S1024x5632 .f32)
    (Wo : FVec Ideal Cert.Reference2Ideal.S2816x1024 .f32) (R : Fin 8192) (l : Fin 1024) :
    REF X M g Wi Wo (ix2 R l) = val_main_v36 (F := Ideal) X M g Wi Wo (ix3 ⟨R.val / 1024, by omega⟩ ⟨R.val % 1024, by omega⟩ l) := by
  pointwise [REF, val_main_v37]

/-- Where the tile of the result lies. -/
theorem emb_out (t : Fin cfg0.N) (r : Fin 256) (l : Fin 1024) : ((cfg0.win 5).blk t).view.emb (ix2 r l)
    = ix2 (⟨t.val * 256 + r.val, by have : t.val < 32 := t.isLt; omega⟩ : Fin 8192) l := by
  blk_ext [idx t]

/-- The tile's result, at any of its indices. -/
theorem point' (c : Dev nD) (t : Fin cfg0.N) (y : S256x1024.Idx) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
       (m ((c : Thread nD τ).loc main_arg3)) (m ((c : Thread nD τ).loc main_arg4)) (((cfg0.win 5).blk t).view.emb y) := by
  idx_vars y
  refine (point m c t y0 y1).trans ?_
  refine Eq.trans ?_ (congrArg (REF _ _ _ _ _) (emb_out t y0 y1)).symm
  refine Eq.trans ?_ (v37_at _ _ _ _ _ _ _).symm
  refine congrArg (val_main_v36 (F := Ideal) _ _ _ _ _) ?_
  blk_ext
/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
       (m ((c : Thread nD τ).loc main_arg3)) (m ((c : Thread nD τ).loc main_arg4)) := by
  refine (dats m 0 c).arrAt_eq_of_covers 5 _ (by decide +kernel) fun t _ y => ?_
  blk_simp
  rw [after0_5]
  exact point' m c t y
end Cert.Kernel2Ideal.Ffn
-- ==== Proof.MergeValue.lean ====
/-
  The merge call: what each row tile leaves in the result array is the reference's gated merge of the three branches.
-/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen Cert.Reference3Ideal.Read

variable (m : (ℓ : Loc nD τ sig) → Buf (Elt Ideal) ℓ)

/-- The block indices of every window at point `t`: the row windows at tile `t`, the modulation at the
    batch entry of the tile (its first row is the context's), the weights whole. -/
theorem idx : ∀ t : Fin cfg0.N, win0_0.index t = ![t.val, 0] ∧ win0_1.index t = ![1 + t.val / 2, 0, 0] ∧
    win0_2.index t = ![0, 0] ∧ win0_3.index t = ![t.val, 0] ∧ win0_4.index t = ![t.val, 0] ∧ win0_5.index t = ![t.val, 0] ∧
    win0_6.index t = ![0, 0] ∧ win0_7.index t = ![0, 0] ∧ win0_8.index t = ![0, 0] ∧ win0_9.index t = ![0, 0] ∧
    win0_10.index t = ![0, 0] ∧ win0_11.index t = ![t.val, 0] :=
  (by decide +kernel : ∀ t : Fin grid0.N, _)

/-- The batch entry the rows of tile `t` belong to. -/
abbrev bat (t : Fin cfg0.N) : Fin 8 := ⟨t.val / 2, by have : t.val < 16 := t.isLt; omega⟩
/-- The row of tile `t` at offset `r` within its batch entry. -/
abbrev pos (t : Fin cfg0.N) (r : Fin 512) : Fin 1024 := ⟨t.val % 2 * 512 + r.val, by omega⟩
/-- The row of tile `t` at offset `r` among all rows. -/
abbrev row (t : Fin cfg0.N) (r : Fin 512) : Fin 8192 := ⟨t.val * 512 + r.val, by have : t.val < 16 := t.isLt; omega⟩

/-- A tile of the layer's input, read at an element. -/
theorem x_blk (c : Dev nD) (t : Fin cfg0.N) (r : Fin 512) (k : Fin 1024) :
    iblk m c 0 t (ix2 r k) = m ((c : Thread nD τ).loc main_arg0) (ix3 (bat t) (pos t r) k) := by
  blk_point [iblk, V, idx t]
/-- The modulation block, read at an element. -/
theorem mod_blk (c : Dev nD) (t : Fin cfg0.N) (a : Fin 6) (k : Fin 1024) :
    iblk m c 1 t (ix3 0 a k) = m ((c : Thread nD τ).loc main_arg1) (ix3 ⟨1 + t.val / 2, by have : t.val < 16 := t.isLt; omega⟩ a k) := by
  blk_point [iblk, V, idx t]
/-- The norm's gains, read at an element. -/
theorem g_blk (c : Dev nD) (t : Fin cfg0.N) (k : Fin 1024) :
    iblk m c 2 t (ix2 0 k) = m ((c : Thread nD τ).loc main_arg2) (ix1 k) := by
  blk_point [iblk, V, idx t]
/-- A tile of the attention branch, read at an element. -/
theorem a_blk (c : Dev nD) (t : Fin cfg0.N) (r : Fin 512) (k : Fin 512) :
    iblk m c 3 t (ix2 r k) = m ((c : Thread nD τ).loc main_arg3) (ix2 (row t r) k) := by
  blk_point [iblk, V, idx t]
/-- A tile of the recurrent branch, read at an element. -/
theorem hm_blk (c : Dev nD) (t : Fin cfg0.N) (r : Fin 512) (k : Fin 256) :
    iblk m c 4 t (ix2 r k) = m ((c : Thread nD τ).loc main_arg4) (ix2 (row t r) k) := by
  blk_point [iblk, V, idx t]
/-- A tile of the Fourier branch, read at an element. -/
theorem fo_blk (c : Dev nD) (t : Fin cfg0.N) (r : Fin 512) (k : Fin 256) :
    iblk m c 5 t (ix2 r k) = m ((c : Thread nD τ).loc main_arg5) (ix2 (row t r) k) := by
  blk_point [iblk, V, idx t]
/-- The gate columns of the input projection, read at an element. -/
theorem wbg_blk (c : Dev nD) (t : Fin cfg0.N) (k : Fin 1024) (l : Fin 3072) :
    iblk m c 6 t (ix2 k l) = m ((c : Thread nD τ).loc main_arg6) (ix2 k ⟨2320 + l.val, by omega⟩) := by
  blk_point [iblk, V, idx t]
/-- The attention branch's projection, read at an element. -/
theorem wpa_blk (c : Dev nD) (t : Fin cfg0.N) (k : Fin 512) (l : Fin 1024) :
    iblk m c 7 t (ix2 k l) = m ((c : Thread nD τ).loc main_arg7) (ix2 k l) := by
  blk_point [iblk, V, idx t]
/-- The recurrent branch's projection, read at an element. -/
theorem wpm_blk (c : Dev nD) (t : Fin cfg0.N) (k : Fin 256) (l : Fin 1024) :
    iblk m c 8 t (ix2 k l) = m ((c : Thread nD τ).loc main_arg8) (ix2 k l) := by
  blk_point [iblk, V, idx t]
/-- The Fourier branch's projection, read at an element. -/
theorem wpf_blk (c : Dev nD) (t : Fin cfg0.N) (k : Fin 256) (l : Fin 1024) :
    iblk m c 9 t (ix2 k l) = m ((c : Thread nD τ).loc main_arg9) (ix2 k l) := by
  blk_point [iblk, V, idx t]
/-- The output projection, read at an element. -/
theorem wo_blk (c : Dev nD) (t : Fin cfg0.N) (k : Fin 1024) (l : Fin 1024) :
    iblk m c 10 t (ix2 k l) = m ((c : Thread nD τ).loc main_arg10) (ix2 k l) := by
  blk_point [iblk, V, idx t]

/-- The modulated normalised row. -/
theorem norm_at (c : Dev nD) (t : Fin cfg0.N) (r : Fin 512) (l : Fin 1024) :
    k0_pay3 (View.ld (iblk m c 0 t) r0_0) (View.ld (iblk m c 2 t) r0_1) (View.ld (iblk m c 1 t) r0_2)
      (View.ld (iblk m c 1 t) r0_3) (ix2 r l)
    = val_main_v27 (F := Ideal) (m ((c : Thread nD τ).loc main_arg0)) (m ((c : Thread nD τ).loc main_arg1)) (m ((c : Thread nD τ).loc main_arg2)) (ix3 (bat t) (pos t r) l) := by
  pointwise [k0_pay2, k0_pay3, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v5, val_main_v4, val_main_v3, val_main_v2, val_main_v1, val_main_v0, val_main_cst, val_main_cst_0, val_main_cst_1, val_main_cst_2]
  have hx := fun k => x_blk m c t r k
  have hm := fun a k => mod_blk m c t a k
  have hg := fun k => g_blk m c t k
  simp only [hx, hm, hg]

/-- The tile's result: the gated merge, projected, gated and added to the input. -/
theorem point (c : Dev nD) (t : Fin cfg0.N) (r : Fin 512) (l : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
    = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (bat t) (pos t r) l) := by
  unfold out0_11
  rw [View.canon_unit_zero (show (![0, 0] : Fin 2 → Nat) = fun _ => 0 from funext fun a => by fin_cases a <;> rfl)]
  unfold k0_pay8 k0_pay4
  have hh := fun l => norm_at m c t r l
  generalize k0_pay3 (View.ld (iblk m c 0 t) r0_0) (View.ld (iblk m c 2 t) r0_1) (View.ld (iblk m c 1 t) r0_2)
      (View.ld (iblk m c 1 t) r0_3) = H at hh ⊢
  pointwise [k0_pay1, k0_pay2, k0_pay5, k0_pay6, k0_pay7, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_4, val_main_v33, val_main_v32, val_main_cst_3, val_main_v31, val_main_v30, val_main_v29, val_main_v28, val_main_v8, val_main_v7, val_main_v6]
  have hx := fun k => x_blk m c t r k
  have hm := fun a k => mod_blk m c t a k
  have ha := fun k => a_blk m c t r k
  have hhm := fun k => hm_blk m c t r k
  have hf := fun k => fo_blk m c t r k
  have hr : row t r = (⟨t.val / 2 * 1024 + (t.val % 2 * 512 + r.val), by have : t.val < 16 := t.isLt; omega⟩ : Fin 8192) :=
    Fin.ext (by show t.val * 512 + r.val = t.val / 2 * 1024 + (t.val % 2 * 512 + r.val); omega)
  simp only [hx, hm, ha, hhm, hf, wbg_blk, wpa_blk, wpm_blk, wpf_blk, wo_blk, hh, zero_sub, hr]

/-- The reference's last reshape: row `R` is position `R % 1024` of batch entry `R / 1024`. -/
theorem ref_at (X : FVec Ideal Cert.Reference3Ideal.S8x1024x1024 .f32) (M : FVec Ideal Cert.Reference3Ideal.S16x6x1024 .f32)
    (g : FVec Ideal Cert.Reference3Ideal.S1024 .f32) (a : FVec Ideal Cert.Reference3Ideal.S8192x512 .f32)
    (hm fo : FVec Ideal Cert.Reference3Ideal.S8192x256 .f32) (Wi : FVec Ideal Cert.Reference3Ideal.S1024x5392 .f32)
    (Wa : FVec Ideal Cert.Reference3Ideal.S512x1024 .f32) (Wm Wf : FVec Ideal Cert.Reference3Ideal.S256x1024 .f32)
    (Wo : FVec Ideal Cert.Reference3Ideal.S1024x1024 .f32) (R : Fin 8192) (l : Fin 1024) :
    val_main_v54 (F := Ideal) X M g a hm fo Wi Wa Wm Wf Wo (ix2 R l)
      = val_main_v53 (F := Ideal) X M g a hm fo Wi Wa Wm Wf Wo (ix3 ⟨R.val / 1024, by omega⟩ ⟨R.val % 1024, by omega⟩ l) := by
  pointwise [val_main_v54]

/-- Where the tile of the result lies. -/
theorem emb_out (t : Fin cfg0.N) (r : Fin 512) (l : Fin 1024) : ((cfg0.win 11).blk t).view.emb (ix2 r l) = ix2 (row t r) l := by
  blk_ext [idx t]

/-- The tile's result, at any of its indices. -/
theorem point' (c : Dev nD) (t : Fin cfg0.N) (y : S512x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 11).blk t).view.emb y) := by
  idx_vars y
  refine (point m c t y0 y1).trans ?_
  refine Eq.trans ?_ (congrArg (val_main_v54 (F := Ideal) _ _ _ _ _ _ _ _ _ _ _) (emb_out t y0 y1)).symm
  refine Eq.trans ?_ (ref_at _ _ _ _ _ _ _ _ _ _ _ _ _).symm
  refine congrArg (val_main_v53 (F := Ideal) _ _ _ _ _ _ _ _ _ _ _) ?_
  blk_ext

/-- The result array after the run is the reference's. -/
theorem final (c : Dev nD) : (dats m 0 c).arrAt 11 (cfgs 0).N
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  exact point' m c t y

end Cert.Kernel3Ideal.Merge
-- ==== Proof.InValue.lean ====
/-
  The input projection: what each row tile leaves in the four result arrays is the reference's projection, its columns regrouped.
-/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.InProj

open Cert.Kernel4Ideal Cert.Kernel4Ideal.Gen Cert.Reference4Ideal.Read

variable (m : (ℓ : Loc nD τ sig) → Buf (Elt Ideal) ℓ)

/-- The block indices of every window at point `t`. -/
theorem idx : ∀ t : Fin cfg0.N, win0_0.index t = ![t.val, 0] ∧ win0_1.index t = ![1 + t.val / 2, 0, 0] ∧
    win0_2.index t = ![0, 0] ∧ win0_3.index t = ![0, 0] ∧ win0_4.index t = ![t.val, 0] ∧ win0_5.index t = ![t.val, 0] ∧
    win0_6.index t = ![t.val, 0] ∧ win0_7.index t = ![t.val, 0] :=
  (by decide +kernel : ∀ t : Fin grid0.N, _)

/-- The batch entry the rows of tile `t` belong to. -/
abbrev bat (t : Fin cfg0.N) : Fin 8 := ⟨t.val / 2, by have : t.val < 16 := t.isLt; omega⟩
/-- The row of tile `t` at offset `r` within its batch entry. -/
abbrev pos (t : Fin cfg0.N) (r : Fin 512) : Fin 1024 := ⟨t.val % 2 * 512 + r.val, by omega⟩
/-- The row of tile `t` at offset `r` among all rows. -/
abbrev row (t : Fin cfg0.N) (r : Fin 512) : Fin 8192 := ⟨t.val * 512 + r.val, by have : t.val < 16 := t.isLt; omega⟩

/-- A tile of the layer's input, read at an element. -/
theorem x_blk (c : Dev nD) (t : Fin cfg0.N) (r : Fin 512) (k : Fin 1024) :
    iblk m c 0 t (ix2 r k) = m ((c : Thread nD τ).loc main_arg0) (ix3 (bat t) (pos t r) k) := by
  blk_point [iblk, V, idx t]
/-- The modulation block, read at an element. -/
theorem mod_blk (c : Dev nD) (t : Fin cfg0.N) (a : Fin 6) (k : Fin 1024) :
    iblk m c 1 t (ix3 0 a k) = m ((c : Thread nD τ).loc main_arg1) (ix3 ⟨1 + t.val / 2, by have : t.val < 16 := t.isLt; omega⟩ a k) := by
  blk_point [iblk, V, idx t]
/-- The norm's gains, read at an element. -/
theorem g_blk (c : Dev nD) (t : Fin cfg0.N) (k : Fin 1024) :
    iblk m c 2 t (ix2 0 k) = m ((c : Thread nD τ).loc main_arg2) (ix1 k) := by
  blk_point [iblk, V, idx t]
/-- The regrouped weight: the first 2048 columns as they are, then the Fourier columns, then the gate
    columns, then zeros. -/
def mix (W : FVec Ideal S1024x5392 .f32) : FVec Ideal S1024x2432 .bf16 :=
  truncf .bf16 (concatenate S1024x2432 1
    [⟨S1024x2048, extractStridedSlice S1024x2048 ![0, 0] W slices_S1024x5392_S1024x2048_0_0⟩,
     ⟨S1024x256, extractStridedSlice S1024x256 ![0, 2064] W slices_S1024x5392_S1024x256_0_2064⟩,
     ⟨S1024x16, extractStridedSlice S1024x16 ![0, 2048] W slices_S1024x5392_S1024x16_0_2048⟩,
     ⟨S1024x112, broadcastInDim S1024x112 ![] bcast_S_S1024x112 (constant (F := Ideal) S_ .f32 0x00000000#32)⟩]
    concatenates_S1024x2048_S1024x256_S1024x16_S1024x112_S1024x2432_d1) bitsLt_bf16_f32

/-- The weight the call is given is the regrouped one. -/
theorem w_entry (c : Dev nD) : V m c main_v6 = mix (m ((c : Thread nD τ).loc main_arg3)) := by
  rfl

/-- The regrouped weight, column by column. -/
theorem mix_at (W : FVec Ideal S1024x5392 .f32) (k : Fin 1024) (l : Fin 2432) :
    mix W (ix2 k l) = if h : l.val < 2048 then W (ix2 k ⟨l.val, by omega⟩)
      else if h : l.val < 2304 then W (ix2 k ⟨l.val + 16, by omega⟩)
      else if h : l.val < 2320 then W (ix2 k ⟨l.val - 256, by omega⟩) else (0 : EReal) := by
  pointwise [mix]
  by_cases h1 : l.val < 2048
  · simp only [dif_pos h1]
  · by_cases h2 : l.val < 2304
    · rw [dif_neg h1, dif_neg h1, dif_pos (by omega), dif_pos h2]
      exact congrArg (fun j => W (ix2 k j)) (Fin.ext (by show 2064 + (l.val - 2048) = l.val + 16; omega))
    · by_cases h3 : l.val < 2320
      · rw [dif_neg h1, dif_neg h1, dif_neg (by omega), dif_neg h2, dif_pos (by omega), dif_pos h3]
        exact congrArg (fun j => W (ix2 k j)) (Fin.ext (by show 2048 + (l.val - 2048 - 256) = l.val - 256; omega))
      · rw [dif_neg h1, dif_neg h1, dif_neg (by omega), dif_neg h2, dif_neg (by omega), dif_neg h3]

/-- The regrouped weight's block is the whole of it. -/
theorem w_blk (c : Dev nD) (t : Fin cfg0.N) (k : Fin 1024) (l : Fin 2432) :
    iblk m c 3 t (ix2 k l) = mix (m ((c : Thread nD τ).loc main_arg3)) (ix2 k l) := by
  blk_simp [iblk]
  rw [w_entry]
  blk_ext [idx t]

/-- The normalised row times a column `w` of the weight. -/
theorem hid_at (c : Dev nD) (t : Fin cfg0.N) (r : Fin 512) (l : Fin 2432) :
    k0_pay2 (View.ld (iblk m c 0 t) r0_0) (View.ld (iblk m c 2 t) r0_1) (View.ld (iblk m c 1 t) r0_2)
      (View.ld (iblk m c 1 t) r0_3) (View.ld (iblk m c 3 t) r0_4) (ix2 r l)
    = ∑ k : Fin 1024, val_main_v24 (F := Ideal) (m ((c : Thread nD τ).loc main_arg0)) (m ((c : Thread nD τ).loc main_arg1)) (m ((c : Thread nD τ).loc main_arg2)) (ix3 (bat t) (pos t r) k) * iblk m c 3 t (ix2 k l) := by
  pointwise [k0_pay2, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  have hx := fun k => x_blk m c t r k
  have hm := fun a k => mod_blk m c t a k
  have hg := fun k => g_blk m c t k
  simp only [hx, hm, hg]

/-- The reference's projection at row `r` of tile `t` is the modulated normalised row times a column. -/
theorem proj_at (c : Dev nD) (t : Fin cfg0.N) (r : Fin 512) (l : Fin 5392) :
    val_main_v26 (F := Ideal) (m ((c : Thread nD τ).loc main_arg0)) (m ((c : Thread nD τ).loc main_arg1)) (m ((c : Thread nD τ).loc main_arg2)) (m ((c : Thread nD τ).loc main_arg3)) (ix2 (row t r) l)
    = ∑ k : Fin 1024, val_main_v24 (F := Ideal) (m ((c : Thread nD τ).loc main_arg0)) (m ((c : Thread nD τ).loc main_arg1)) (m ((c : Thread nD τ).loc main_arg2)) (ix3 (bat t) (pos t r) k)
        * m ((c : Thread nD τ).loc main_arg3) (ix2 k l) := by
  have hr : row t r = (⟨t.val / 2 * 1024 + (t.val % 2 * 512 + r.val), by have : t.val < 16 := t.isLt; omega⟩ : Fin 8192) :=
    Fin.ext (by show t.val * 512 + r.val = t.val / 2 * 1024 + (t.val % 2 * 512 + r.val); omega)
  rw [hr]
  pointwise [val_main_v26, val_main_v25]
  have e1 : (⟨(t.val / 2 * 1024 + (t.val % 2 * 512 + r.val)) / 1024, by have : t.val < 16 := t.isLt; omega⟩ : Fin 8) = bat t := Fin.ext (by show (t.val / 2 * 1024 + (t.val % 2 * 512 + r.val)) / 1024 = t.val / 2; omega)
  have e2 : (⟨(t.val / 2 * 1024 + (t.val % 2 * 512 + r.val)) % 1024, by omega⟩ : Fin 1024) = pos t r := Fin.ext (by show (t.val / 2 * 1024 + (t.val % 2 * 512 + r.val)) % 1024 = t.val % 2 * 512 + r.val; omega)
  simp only [e1, e2]

/-- The tile's projection at a column of the regrouped weight that is column `L` of the weight. -/
theorem col_at (c : Dev nD) (t : Fin cfg0.N) (r : Fin 512) (l : Fin 2432) (L : Fin 5392)
    (h : ∀ k, mix (m ((c : Thread nD τ).loc main_arg3)) (ix2 k l) = m ((c : Thread nD τ).loc main_arg3) (ix2 k L)) :
    k0_pay2 (View.ld (iblk m c 0 t) r0_0) (View.ld (iblk m c 2 t) r0_1) (View.ld (iblk m c 1 t) r0_2)
      (View.ld (iblk m c 1 t) r0_3) (View.ld (iblk m c 3 t) r0_4) (ix2 r l)
    = val_main_v26 (F := Ideal) (m ((c : Thread nD τ).loc main_arg0)) (m ((c : Thread nD τ).loc main_arg1)) (m ((c : Thread nD τ).loc main_arg2)) (m ((c : Thread nD τ).loc main_arg3)) (ix2 (row t r) L) := by
  rw [hid_at m c t r l, proj_at m c t r L]
  refine Finset.sum_congr rfl fun k _ => ?_
  rw [w_blk, h]

/-- The tile's projection at a column of zeros. -/
theorem zero_at (c : Dev nD) (t : Fin cfg0.N) (r : Fin 512) (l : Fin 2432)
    (h : ∀ k, mix (m ((c : Thread nD τ).loc main_arg3)) (ix2 k l) = (0 : EReal)) :
    k0_pay2 (View.ld (iblk m c 0 t) r0_0) (View.ld (iblk m c 2 t) r0_1) (View.ld (iblk m c 1 t) r0_2)
      (View.ld (iblk m c 1 t) r0_3) (View.ld (iblk m c 3 t) r0_4) (ix2 r l) = (0 : EReal) := by
  rw [hid_at m c t r l]
  refine Finset.sum_eq_zero fun k _ => ?_
  rw [w_blk, h]
  exact mul_zero _

/-- The attention's operand: columns 0 to 511 beside two groups of 256. -/
theorem v38_at (X : FVec Ideal Cert.Reference4Ideal.S8x1024x1024 .f32) (M : FVec Ideal Cert.Reference4Ideal.S16x6x1024 .f32)
    (g : FVec Ideal Cert.Reference4Ideal.S1024 .f32) (W : FVec Ideal Cert.Reference4Ideal.S1024x5392 .f32) (R : Fin 8192) (l : Fin 1024) :
    val_main_v38 (F := Ideal) X M g W (ix2 R l) = val_main_v26 (F := Ideal) X M g W (ix2 R ⟨l.val, by omega⟩) := by
  pointwise [val_main_v38, val_main_v27, val_main_v28, val_main_v29]
  split_ifs <;> exact congrArg (fun j => val_main_v26 (F := Ideal) X M g W (ix2 R j)) (Fin.ext (by first | rfl | (dsimp only; omega)))

/-- The recurrence's operand: four groups of 256 columns. -/
theorem v39_at (X : FVec Ideal Cert.Reference4Ideal.S8x1024x1024 .f32) (M : FVec Ideal Cert.Reference4Ideal.S16x6x1024 .f32)
    (g : FVec Ideal Cert.Reference4Ideal.S1024 .f32) (W : FVec Ideal Cert.Reference4Ideal.S1024x5392 .f32) (R : Fin 8192) (l : Fin 1024) :
    val_main_v39 (F := Ideal) X M g W (ix2 R l) = val_main_v26 (F := Ideal) X M g W (ix2 R ⟨1024 + l.val, by omega⟩) := by
  pointwise [val_main_v39, val_main_v30, val_main_v31, val_main_v32, val_main_v33]
  split_ifs <;> exact congrArg (fun j => val_main_v26 (F := Ideal) X M g W (ix2 R j)) (Fin.ext (by first | rfl | (dsimp only; omega)))

/-- The Fourier branch's operand. -/
theorem v35_at (X : FVec Ideal Cert.Reference4Ideal.S8x1024x1024 .f32) (M : FVec Ideal Cert.Reference4Ideal.S16x6x1024 .f32)
    (g : FVec Ideal Cert.Reference4Ideal.S1024 .f32) (W : FVec Ideal Cert.Reference4Ideal.S1024x5392 .f32) (R : Fin 8192) (l : Fin 256) :
    val_main_v35 (F := Ideal) X M g W (ix2 R l) = val_main_v26 (F := Ideal) X M g W (ix2 R ⟨2064 + l.val, by omega⟩) := by
  pointwise [val_main_v35]

/-- The recurrence's gates: sixteen columns, then zeros. -/
theorem v37_at (X : FVec Ideal Cert.Reference4Ideal.S8x1024x1024 .f32) (M : FVec Ideal Cert.Reference4Ideal.S16x6x1024 .f32)
    (g : FVec Ideal Cert.Reference4Ideal.S1024 .f32) (W : FVec Ideal Cert.Reference4Ideal.S1024x5392 .f32) (R : Fin 8192) (l : Fin 128) :
    val_main_v37 (F := Ideal) X M g W (ix2 R l)
      = if h : l.val < 16 then val_main_v26 (F := Ideal) X M g W (ix2 R ⟨2048 + l.val, by omega⟩) else (0 : EReal) := by
  pointwise [val_main_v37, val_main_v34, val_main_call0_v0, val_main_c]
  have z : (FloatOps.sitofp (F := Ideal) FTy.f32 (0#32) : EReal) = 0 := by simp [FloatOps.sitofp]
  by_cases h : l.val < 16
  · rw [dif_pos h, dif_pos h]
  · rw [dif_neg h, dif_neg h]
    exact z

/-- The tile of the attention's operand. -/
theorem point4 (c : Dev nD) (t : Fin cfg0.N) (r : Fin 512) (l : Fin 1024) :
    out0_4 (iblk m c 0 t) (iblk m c 1 t) (iblk m c 2 t) (iblk m c 3 t) (ix2 r l)
    = val_main_v38 (F := Ideal) (m ((c : Thread nD τ).loc main_arg0)) (m ((c : Thread nD τ).loc main_arg1)) (m ((c : Thread nD τ).loc main_arg2)) (m ((c : Thread nD τ).loc main_arg3)) (ix2 (row t r) l) := by
  unfold out0_4
  rw [View.canon_unit_zero (show (![0, 0] : Fin 2 → Nat) = fun _ => 0 from funext fun a => by fin_cases a <;> rfl), v38_at]
  have hc := fun l L h => col_at m c t r l L h
  have hz := fun l h => zero_at m c t r l h
  unfold k0_pay3
  generalize k0_pay2 (View.ld (iblk m c 0 t) r0_0) (View.ld (iblk m c 2 t) r0_1) (View.ld (iblk m c 1 t) r0_2)
      (View.ld (iblk m c 1 t) r0_3) (View.ld (iblk m c 3 t) r0_4) = H at hc hz ⊢
  pointwise []
  refine hc _ _ fun k => ?_
  rw [mix_at]
  split_ifs with h1 h2 h3
  · rfl
  all_goals exact absurd l.isLt (by simp only at h1; omega)

/-- Where the tile of the attention's operand lies. -/
theorem emb4 (t : Fin cfg0.N) (r : Fin 512) (l : Fin 1024) : ((cfg0.win 4).blk t).view.emb (ix2 r l) = ix2 (row t r) l := by
  blk_ext [idx t]

/-- The tile of the attention's operand, at any of its indices. -/
theorem at4 (c : Dev nD) (t : Fin cfg0.N) (y : S512x1024.Idx) :
    out0_4 (iblk m c 0 t) (iblk m c 1 t) (iblk m c 2 t) (iblk m c 3 t) y
    = val_main_v38 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  idx_vars y
  exact (point4 m c t y0 y1).trans (congrArg (val_main_v38 (F := Ideal) _ _ _ _) (emb4 t y0 y1)).symm

/-- The array of the attention's operand after the run is the reference's. -/
theorem final4 (c : Dev nD) : (dats m 0 c).arrAt 4 (cfgs 0).N = val_main_v38 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact at4 m c t y

/-- The tile of the recurrence's operand. -/
theorem point5 (c : Dev nD) (t : Fin cfg0.N) (r : Fin 512) (l : Fin 1024) :
    out0_5 (iblk m c 0 t) (iblk m c 1 t) (iblk m c 2 t) (iblk m c 3 t) (ix2 r l)
    = val_main_v39 (F := Ideal) (m ((c : Thread nD τ).loc main_arg0)) (m ((c : Thread nD τ).loc main_arg1)) (m ((c : Thread nD τ).loc main_arg2)) (m ((c : Thread nD τ).loc main_arg3)) (ix2 (row t r) l) := by
  unfold out0_5
  rw [View.canon_unit_zero (show (![0, 0] : Fin 2 → Nat) = fun _ => 0 from funext fun a => by fin_cases a <;> rfl), v39_at]
  have hc := fun l L h => col_at m c t r l L h
  have hz := fun l h => zero_at m c t r l h
  unfold k0_pay4
  generalize k0_pay2 (View.ld (iblk m c 0 t) r0_0) (View.ld (iblk m c 2 t) r0_1) (View.ld (iblk m c 1 t) r0_2)
      (View.ld (iblk m c 1 t) r0_3) (View.ld (iblk m c 3 t) r0_4) = H at hc hz ⊢
  pointwise []
  refine hc _ _ fun k => ?_
  rw [mix_at]
  split_ifs with h1 h2 h3
  · rfl
  all_goals exact absurd l.isLt (by simp only at h1; omega)

/-- Where the tile of the recurrence's operand lies. -/
theorem emb5 (t : Fin cfg0.N) (r : Fin 512) (l : Fin 1024) : ((cfg0.win 5).blk t).view.emb (ix2 r l) = ix2 (row t r) l := by
  blk_ext [idx t]

/-- The tile of the recurrence's operand, at any of its indices. -/
theorem at5 (c : Dev nD) (t : Fin cfg0.N) (y : S512x1024.Idx) :
    out0_5 (iblk m c 0 t) (iblk m c 1 t) (iblk m c 2 t) (iblk m c 3 t) y
    = val_main_v39 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  idx_vars y
  exact (point5 m c t y0 y1).trans (congrArg (val_main_v39 (F := Ideal) _ _ _ _) (emb5 t y0 y1)).symm

/-- The array of the recurrence's operand after the run is the reference's. -/
theorem final5 (c : Dev nD) : (dats m 0 c).arrAt 5 (cfgs 0).N = val_main_v39 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact at5 m c t y

/-- The tile of the Fourier branch's operand. -/
theorem point6 (c : Dev nD) (t : Fin cfg0.N) (r : Fin 512) (l : Fin 256) :
    out0_6 (iblk m c 0 t) (iblk m c 1 t) (iblk m c 2 t) (iblk m c 3 t) (ix2 r l)
    = val_main_v35 (F := Ideal) (m ((c : Thread nD τ).loc main_arg0)) (m ((c : Thread nD τ).loc main_arg1)) (m ((c : Thread nD τ).loc main_arg2)) (m ((c : Thread nD τ).loc main_arg3)) (ix2 (row t r) l) := by
  unfold out0_6
  rw [View.canon_unit_zero (show (![0, 0] : Fin 2 → Nat) = fun _ => 0 from funext fun a => by fin_cases a <;> rfl), v35_at]
  have hc := fun l L h => col_at m c t r l L h
  have hz := fun l h => zero_at m c t r l h
  unfold k0_pay5
  generalize k0_pay2 (View.ld (iblk m c 0 t) r0_0) (View.ld (iblk m c 2 t) r0_1) (View.ld (iblk m c 1 t) r0_2)
      (View.ld (iblk m c 1 t) r0_3) (View.ld (iblk m c 3 t) r0_4) = H at hc hz ⊢
  pointwise []
  refine hc _ _ fun k => ?_
  rw [mix_at]
  rw [dif_neg (by simp only; omega), dif_pos (by simp only; omega)]
  exact congrArg (fun j => m ((c : Thread nD τ).loc main_arg3) (ix2 k j)) (Fin.ext (by show 2048 + l.val + 16 = 2064 + l.val; omega))

/-- Where the tile of the Fourier branch's operand lies. -/
theorem emb6 (t : Fin cfg0.N) (r : Fin 512) (l : Fin 256) : ((cfg0.win 6).blk t).view.emb (ix2 r l) = ix2 (row t r) l := by
  blk_ext [idx t]

/-- The tile of the Fourier branch's operand, at any of its indices. -/
theorem at6 (c : Dev nD) (t : Fin cfg0.N) (y : S512x256.Idx) :
    out0_6 (iblk m c 0 t) (iblk m c 1 t) (iblk m c 2 t) (iblk m c 3 t) y
    = val_main_v35 (F := Ideal) (m ((c : Thread nD τ).loc main_arg0)) (m ((c : Thread nD τ).loc main_arg1)) (m ((c : Thread nD τ).loc main_arg2)) (m ((c : Thread nD τ).loc main_arg3)) (((cfg0.win 6).blk t).view.emb y) := by
  idx_vars y
  exact (point6 m c t y0 y1).trans (congrArg (val_main_v35 (F := Ideal) _ _ _ _) (emb6 t y0 y1)).symm

/-- The array of the Fourier branch's operand after the run is the reference's. -/
theorem final6 (c : Dev nD) : (dats m 0 c).arrAt 6 (cfgs 0).N = val_main_v35 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  exact at6 m c t y

/-- The tile of the recurrence's gates's operand. -/
theorem point7 (c : Dev nD) (t : Fin cfg0.N) (r : Fin 512) (l : Fin 128) :
    out0_7 (iblk m c 0 t) (iblk m c 1 t) (iblk m c 2 t) (iblk m c 3 t) (ix2 r l)
    = val_main_v37 (F := Ideal) (m ((c : Thread nD τ).loc main_arg0)) (m ((c : Thread nD τ).loc main_arg1)) (m ((c : Thread nD τ).loc main_arg2)) (m ((c : Thread nD τ).loc main_arg3)) (ix2 (row t r) l) := by
  unfold out0_7
  rw [View.canon_unit_zero (show (![0, 0] : Fin 2 → Nat) = fun _ => 0 from funext fun a => by fin_cases a <;> rfl), v37_at]
  have hc := fun l L h => col_at m c t r l L h
  have hz := fun l h => zero_at m c t r l h
  generalize k0_pay2 (View.ld (iblk m c 0 t) r0_0) (View.ld (iblk m c 2 t) r0_1) (View.ld (iblk m c 1 t) r0_2)
      (View.ld (iblk m c 1 t) r0_3) (View.ld (iblk m c 3 t) r0_4) = H at hc hz ⊢
  pointwise [k0_pay1]
  by_cases h : l.val < 16
  · rw [dif_pos h]
    refine hc _ _ fun k => ?_
    rw [mix_at]
    rw [dif_neg (by simp only; omega), dif_neg (by simp only; omega), dif_pos (by simp only; omega)]
    exact congrArg (fun j => m ((c : Thread nD τ).loc main_arg3) (ix2 k j)) (Fin.ext (by show 2304 + l.val - 256 = 2048 + l.val; omega))
  · rw [dif_neg h]
    refine hz _ fun k => ?_
    rw [mix_at]
    rw [dif_neg (by simp only; omega), dif_neg (by simp only; omega), dif_neg (by simp only; omega)]

/-- Where the tile of the recurrence's gates's operand lies. -/
theorem emb7 (t : Fin cfg0.N) (r : Fin 512) (l : Fin 128) : ((cfg0.win 7).blk t).view.emb (ix2 r l) = ix2 (row t r) l := by
  blk_ext [idx t]

/-- The tile of the recurrence's gates's operand, at any of its indices. -/
theorem at7 (c : Dev nD) (t : Fin cfg0.N) (y : S512x128.Idx) :
    out0_7 (iblk m c 0 t) (iblk m c 1 t) (iblk m c 2 t) (iblk m c 3 t) y
    = val_main_v37 (F := Ideal) (m ((c : Thread nD τ).loc main_arg0)) (m ((c : Thread nD τ).loc main_arg1)) (m ((c : Thread nD τ).loc main_arg2)) (m ((c : Thread nD τ).loc main_arg3)) (((cfg0.win 7).blk t).view.emb y) := by
  idx_vars y
  exact (point7 m c t y0 y1).trans (congrArg (val_main_v37 (F := Ideal) _ _ _ _) (emb7 t y0 y1)).symm

/-- The array of the recurrence's gates's operand after the run is the reference's. -/
theorem final7 (c : Dev nD) : (dats m 0 c).arrAt 7 (cfgs 0).N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  exact at7 m c t y

end Cert.Kernel4Ideal.InProj
-- ==== Proof.RealRows.lean ====
module

public import Idealize.ShloMosaic.Lib.Pointwise
public import Idealize.ShloMosaic.Lib.Pipeline.ValueKit

@[expose] public section
set_option maxRecDepth 16384
noncomputable section

open Idealize.ShloMosaic
/-! Extended-real facts about rows of real entries: what a norm, a softmax and a weighted mean of such a row are. -/
namespace Cert.RealRows

/-- An absolute value below infinity: the number is real. -/
theorem real_of_abs_lt {x : EReal} (h : FloatOps.cmpf (F := Ideal) (φ := .f32) .olt (FloatOps.absf (F := Ideal) (φ := .f32) x) (Ideal.ofBits .f32 0x7F800000#32) = 1#1) : ∃ r : ℝ, x = r := by
  induction x using EReal.rec with
  | bot => exfalso; revert h; simp [Ideal.ofBits, Ideal.ieee, FloatOps.cmpf, FloatOps.absf, Ideal.cmp]
  | coe r => exact ⟨r, rfl⟩
  | top => exfalso; revert h; simp [Ideal.ofBits, Ideal.ieee, FloatOps.cmpf, FloatOps.absf, Ideal.cmp]

/-- A finite sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor leaves a sum. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top _) _ _

/-- The word of minus infinity. -/
theorem ofBits_bot : Ideal.ofBits .f32 0xFF800000#32 = ⊥ := by simp [Ideal.ofBits, Ideal.ieee]

/-- The word of zero. -/
theorem ofBits_zero : Ideal.ofBits .f32 0x00000000#32 = 0 := by simp [Ideal.ofBits, Ideal.ieee]

/-- The largest of finitely many reals, from minus infinity, is real. -/
theorem fold_max_real {n : ℕ} (f : Fin (n + 1) → ℝ) :
    ∃ M : ℝ, (Finset.univ : Finset (Fin (n + 1))).fold max (⊥ : EReal) (fun i => (f i : EReal)) = M := by
  have hb : (⊥ : EReal) < (Finset.univ : Finset (Fin (n + 1))).fold max (⊥ : EReal) (fun i => (f i : EReal)) :=
    (Finset.lt_fold_max _).2 (.inr ⟨0, Finset.mem_univ _, EReal.bot_lt_coe _⟩)
  have ht : (Finset.univ : Finset (Fin (n + 1))).fold max (⊥ : EReal) (fun i => (f i : EReal)) < ⊤ :=
    (Finset.fold_max_lt _).2 ⟨bot_lt_top, fun _ _ => EReal.coe_lt_top _⟩
  exact ⟨_, (EReal.coe_toReal ht.ne hb.ne').symm⟩

/-- The weighted mean of a row of values under a softmax of real scores: normalising the weights first or the
    weighted sum last is the same, whatever the values. -/
theorem softmax_row {n : ℕ} (s : Fin (n + 1) → ℝ) (v : Fin (n + 1) → EReal) :
    Ideal.div (∑ x, Ideal.exp ((s x : EReal) - Finset.univ.fold max (⊥ : EReal) (fun x => (s x : EReal))) * v x)
      (∑ x, Ideal.exp ((s x : EReal) - Finset.univ.fold max (⊥ : EReal) (fun x => (s x : EReal))))
    = ∑ x, v x * Ideal.div (Ideal.exp ((s x : EReal) - max (⊥ : EReal) (Finset.univ.fold max (⊥ : EReal) (fun x => (s x : EReal)))))
        (∑ x, Ideal.exp ((s x : EReal) - max (⊥ : EReal) (Finset.univ.fold max (⊥ : EReal) (fun x => (s x : EReal))))) := by
  obtain ⟨M, hM⟩ := fold_max_real s
  rw [hM, max_eq_right bot_le]
  have he : ∀ x, Ideal.exp ((s x : EReal) - (M : EReal)) = ((Real.exp (s x - M) : ℝ) : EReal) := fun x => by
    rw [← EReal.coe_sub]; rfl
  simp only [he, coe_sum]
  have hpos : 0 < ∑ x, Real.exp (s x - M) := Finset.sum_pos (fun _ _ => Real.exp_pos _) Finset.univ_nonempty
  rw [Ideal.div_coe hpos.ne', sum_mul_coe _ _ (by positivity)]
  refine Finset.sum_congr rfl fun x _ => ?_
  rw [Ideal.div_coe hpos.ne', mul_comm ((Real.exp (s x - M) : ℝ) : EReal) (v x), mul_assoc]

/-- The reciprocal root of a positive real. -/
theorem rsqrt_pos {r : ℝ} (h : 0 < r) : Ideal.rsqrt (r : EReal) = (((Real.sqrt r)⁻¹ : ℝ) : EReal) := by
  show (if r < 0 then (⊥ : EReal) else if r = 0 then ⊤ else _) = _
  rw [if_neg (not_lt.2 h.le), if_neg h.ne']

/-- The norms' floor, a positive real. -/
theorem eps_real : ∃ e : ℝ, 0 < e ∧ Ideal.ofBits .f32 0x358637BD#32 = (e : EReal) :=
  ⟨8796093 * 2 ^ (-43 : ℤ), by positivity, by simp [Ideal.ofBits, Ideal.ieee, -EReal.coe_mul]⟩
/-- 1/64. -/
theorem ofBits_inv64 : Ideal.ofBits .f32 0x3C800000#32 = ((1 / 64 : ℝ) : EReal) := by
  simp [Ideal.ofBits, Ideal.ieee, -EReal.coe_mul]; norm_num
/-- 64. -/
theorem ofBits_64 : Ideal.ofBits .f32 0x42800000#32 = ((64 : ℝ) : EReal) := by
  simp [Ideal.ofBits, Ideal.ieee, -EReal.coe_mul]; norm_num
/-- 1/8. -/
theorem ofBits_eighth : Ideal.ofBits .f32 0x3E000000#32 = ((1 / 8 : ℝ) : EReal) := by
  simp [Ideal.ofBits, Ideal.ieee, -EReal.coe_mul]; norm_num

/-- The floor's real value. -/
def eps : ℝ := Classical.choose eps_real
theorem eps_pos : 0 < eps := (Classical.choose_spec eps_real).1
theorem ofBits_eps : Ideal.ofBits .f32 0x358637BD#32 = (eps : EReal) := (Classical.choose_spec eps_real).2

/-- An entry of a real row over its root mean square, times a gain. -/
def nrm (x : Fin 64 → ℝ) (g : ℝ) (d : Fin 64) : ℝ := x d * (Real.sqrt ((∑ e, x e * x e) * (1 / 64) + eps))⁻¹ * g

theorem ms_pos (x : Fin 64 → ℝ) : 0 < (∑ e, x e * x e) * (1 / 64) + eps := by
  have : 0 ≤ ∑ e, x e * x e := Finset.sum_nonneg fun _ _ => mul_self_nonneg _
  have := eps_pos
  positivity

/-- The norm as the reference writes it. -/
theorem nrm_ref (x : Fin 64 → ℝ) (g : ℝ) (d : Fin 64) :
    (x d : EReal) * Ideal.rsqrt (Ideal.div (∑ e, (x e : EReal) * (x e : EReal)) (Ideal.ofBits .f32 0x42800000#32) + Ideal.ofBits .f32 0x358637BD#32) * (g : EReal)
    = (nrm x g d : EReal) := by
  rw [ofBits_64, ofBits_eps, Ideal.div_coe (by norm_num)]
  simp only [← EReal.coe_mul, coe_sum]
  rw [← EReal.coe_add, rsqrt_pos (ms_pos x)]
  simp only [← EReal.coe_mul]
  rfl

/-- A sum over `A` groups of 64 against the indicator of group `h` is the sum over that group. -/
theorem group_sum {A N : ℕ} (hN : N = A * 64) (h : Fin A) (f : Fin A → Fin 64 → EReal) (F : Fin N → EReal)
    (hF : ∀ (k : Fin N) (a : Fin A) (s : Fin 64), k.val / 64 = a.val → k.val % 64 = s.val → F k = f a s * (if a = h then 1 else 0)) :
    ∑ k, F k = ∑ s, f h s := by
  rw [Fin.sum_divmod_congr (A := A) (S := 64) (f := fun a s => f a s * (if a = h then 1 else 0)) (fun t ha hs => hF t _ _ rfl rfl) hN]
  rw [Finset.sum_eq_single h]
  · simp
  · intro a _ hne; simp [hne]
  · simp

/-- The norm as the kernel writes it: the squares and their rounding residues (zero for real entries) summed over the
    groups, times 1/64. -/
theorem nrm_ker {A N : ℕ} (hN : N = A * 64) (X : Fin A → Fin 64 → ℝ) (h : Fin A) (d : Fin 64) (g : ℝ) (x : Fin N → EReal) (B : Fin N → EReal)
    (hx : ∀ (k : Fin N) (a : Fin A) (s : Fin 64), k.val / 64 = a.val → k.val % 64 = s.val → x k = (X a s : EReal))
    (hB : ∀ (k : Fin N) (a : Fin A), k.val / 64 = a.val → B k = if a = h then 1 else 0) (y : EReal) (hy : y = (X h d : EReal)) :
    y * Ideal.rsqrt ((∑ k, x k * x k * B k + ∑ k, (x k * x k - x k * x k) * B k) * Ideal.ofBits .f32 0x3C800000#32 + Ideal.ofBits .f32 0x358637BD#32) * (g : EReal)
    = (nrm (X h) g d : EReal) := by
  have h1 : ∑ k, x k * x k * B k = ∑ e, (X h e : EReal) * (X h e : EReal) :=
    group_sum hN h (fun a s => (X a s : EReal) * (X a s : EReal)) _ fun k a s ha hs => by rw [hx k a s ha hs, hB k a ha]
  have h2 : ∑ k, (x k * x k - x k * x k) * B k = 0 := Finset.sum_eq_zero fun k _ => by
    have ha : k.val / 64 < A := by have := k.isLt; omega
    rw [hx k ⟨_, ha⟩ ⟨k.val % 64, Nat.mod_lt _ (by norm_num)⟩ rfl rfl, ← EReal.coe_mul, ← EReal.coe_sub, sub_self, EReal.coe_zero, zero_mul]
  rw [h1, h2, hy, add_zero, ofBits_inv64, ofBits_eps]
  simp only [← EReal.coe_mul, coe_sum]
  rw [← EReal.coe_add, rsqrt_pos (ms_pos (X h))]
  simp only [← EReal.coe_mul]
  rfl

/-- The scores as the reference writes them, scaled after the product. -/
theorem score_ref (q k : Fin 64 → ℝ) : (∑ e, (k e : EReal) * (q e : EReal)) * Ideal.ofBits .f32 0x3E000000#32
    = ((∑ e, q e * (1 / 8) * k e : ℝ) : EReal) := by
  rw [ofBits_eighth]
  simp only [← EReal.coe_mul, coe_sum]
  rw [Finset.sum_mul]
  exact congrArg _ (Finset.sum_congr rfl fun e _ => by ring)

/-- The row that position `r` of batch entry `t` is, of 16 entries of 256 positions. -/
abbrev row (t : Fin 16) (r : Fin 256) : Fin 4096 := ⟨t.val * 256 + r.val, by omega⟩

/-- A head's 64 query channels of a row. -/
def qrow (zr : Fin 4096 → ℕ → ℝ) (R : Fin 4096) (h : ℕ) (e : Fin 64) : ℝ := zr R (h * 64 + e.val)
/-- A head's 64 key channels of a row, which lie after the 512 query channels. -/
def krow (zr : Fin 4096 → ℕ → ℝ) (R : Fin 4096) (h : ℕ) (e : Fin 64) : ℝ := zr R (512 + (h * 64 + e.val))

/-- A scaled score: the product of a query and a key over the root of their width. -/
def score (q : Fin 64 → ℝ) (k : Fin 256 → Fin 64 → ℝ) (j : Fin 256) : ℝ := ∑ e, q e * (1 / 8) * k j e

/-- Attention of one query over 256 keys: the values weighted by the softmax of the scores. -/
def att (q : Fin 64 → ℝ) (k : Fin 256 → Fin 64 → ℝ) (v : Fin 256 → EReal) : EReal :=
  ∑ x, v x * Ideal.div (Ideal.exp ((score q k x : EReal) - max (⊥ : EReal) (Finset.univ.fold max (⊥ : EReal) (fun x => (score q k x : EReal)))))
    (∑ x, Ideal.exp ((score q k x : EReal) - max (⊥ : EReal) (Finset.univ.fold max (⊥ : EReal) (fun x => (score q k x : EReal)))))

end Cert.RealRows
-- ==== Proof.AttnTile.lean ====
module

public import proofs.«01_k».proof.Proof.Gen.KernelIdeal.Value
public import proofs.«01_k».proof.Proof.RealRows
public import Idealize.ShloMosaic.Lib.Pointwise
public import Idealize.ShloMosaic.Lib.Pipeline.ValueKit
public import Idealize.ShloMosaic.Lib.Pipeline.ReadBack

@[expose] public section
set_option maxRecDepth 16384
noncomputable section

open Idealize.ShloMosaic Idealize.ShloMosaic.TcCoe Idealize.SL.Sem
open Idealize.ShloMosaic.Pipeline (Dat)
namespace Cert.KernelIdeal.Attn
open Cert.KernelIdeal Cert.KernelIdeal.Gen Cert.RealRows

variable (m : (ℓ : Loc nD τ sig) → Buf (Elt Ideal) ℓ)

/-- The block indices of every window at point `t`: queries, keys and values are column blocks of the projection at
    batch entry `t`, the gains and the group masks are whole, the results are at batch entry `t`. -/
theorem idx : ∀ t : Fin cfg0.N, win0_0.index t = ![t.val, 0] ∧ win0_1.index t = ![t.val, 2] ∧
    win0_2.index t = ![t.val, 3] ∧ win0_3.index t = ![0, 0] ∧ win0_4.index t = ![0, 0] ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- The query block, read at an element. -/
theorem q_blk (c : Dev nD) (t : Fin cfg0.N) (r : Fin 256) (k : Fin 512) :
    iblk m c 0 t (ix2 r k) = m ((c : Thread nD τ).loc main_arg0) (ix2 (row t r) (⟨k.val, by omega⟩ : Fin 1024)) := by
  blk_point [iblk, V, idx t]
/-- The key block, read at an element. -/
theorem k_blk (c : Dev nD) (t : Fin cfg0.N) (r : Fin 256) (k : Fin 256) :
    iblk m c 1 t (ix2 r k) = m ((c : Thread nD τ).loc main_arg0) (ix2 (row t r) (⟨512 + k.val, by omega⟩ : Fin 1024)) := by
  blk_point [iblk, V, idx t]
/-- The value block, read at an element. -/
theorem v_blk (c : Dev nD) (t : Fin cfg0.N) (r : Fin 256) (k : Fin 256) :
    iblk m c 2 t (ix2 r k) = m ((c : Thread nD τ).loc main_arg0) (ix2 (row t r) (⟨768 + k.val, by omega⟩ : Fin 1024)) := by
  blk_point [iblk, V, idx t]

/-- The query gains, repeated for eight heads. -/
def gq (g : FVec Ideal S64 .f32) : FVec Ideal S1x512 .f32 :=
  broadcastInDim S1x512 ![1] bcast_S512_S1x512_1 (shapeCast S512 (broadcastInDim S8x64 ![0, 1] bcast_S1x64_S8x64_0_1 (shapeCast S1x64 g shapeCasts_S64_S1x64)) shapeCasts_S8x64_S512)
theorem gq_entry (c : Dev nD) : V m c main_v3 = gq (m ((c : Thread nD τ).loc main_arg1)) := by rfl
theorem gq_at (g : FVec Ideal S64 .f32) (k : Fin 512) : gq g (ix2 0 k) = g (ix1 (⟨k.val % 64, by omega⟩ : Fin 64)) := by
  pointwise [gq]
/-- The query gains' block, read at an element. -/
theorem gq_blk (c : Dev nD) (t : Fin cfg0.N) (k : Fin 512) :
    iblk m c 3 t (ix2 0 k) = m ((c : Thread nD τ).loc main_arg1) (ix1 (⟨k.val % 64, by omega⟩ : Fin 64)) := by
  refine Eq.trans ?_ (gq_at _ k)
  blk_simp [iblk]
  rw [gq_entry]
  blk_ext [idx t]

/-- The key gains, repeated for four heads. -/
def gk (g : FVec Ideal S64 .f32) : FVec Ideal S1x256 .f32 :=
  broadcastInDim S1x256 ![1] bcast_S256_S1x256_1 (shapeCast S256 (broadcastInDim S4x64 ![0, 1] bcast_S1x64_S4x64_0_1 (shapeCast S1x64 g shapeCasts_S64_S1x64)) shapeCasts_S4x64_S256)
theorem gk_entry (c : Dev nD) : V m c main_v7 = gk (m ((c : Thread nD τ).loc main_arg2)) := by rfl
theorem gk_at (g : FVec Ideal S64 .f32) (k : Fin 256) : gk g (ix2 0 k) = g (ix1 (⟨k.val % 64, by omega⟩ : Fin 64)) := by
  pointwise [gk]
/-- The key gains' block, read at an element. -/
theorem gk_blk (c : Dev nD) (t : Fin cfg0.N) (k : Fin 256) :
    iblk m c 4 t (ix2 0 k) = m ((c : Thread nD τ).loc main_arg2) (ix1 (⟨k.val % 64, by omega⟩ : Fin 64)) := by
  refine Eq.trans ?_ (gk_at _ k)
  blk_simp [iblk]
  rw [gk_entry]
  blk_ext [idx t]

/-- The group number of a channel, as the words the mask is made of. -/
def grp512 : IVec S512 32 := Host.divsi (iotaInDim S512 32 0) (broadcastInDim S512 ![] bcast_S_S512 (constantI S_ 32 64#32))
theorem grp512_at (k : Fin 512) : grp512 (ix1 k) = BitVec.ofNat 32 (k.val / 64) := by
  revert k
  decide +kernel
theorem mask_at (a b : ℕ) (ha : a < 8) (hb : b < 8) :
    Scalar.select (IntOp.cmpi .eq (BitVec.ofNat 32 a) (BitVec.ofNat 32 b)) (1 : EReal) 0 = if a = b then 1 else 0 := by
  interval_cases a <;> interval_cases b <;> rfl
/-- The mask of the query groups: one where two channels belong to the same head. -/
def bdq : FVec Ideal S512x512 .bf16 :=
  truncf .bf16 (select (cmpi .eq (broadcastInDim S512x512 ![0, 1] bcast_S512x1_S512x512_0_1 (broadcastInDim S512x1 ![0] bcast_S512_S512x1_0 grp512))
      (broadcastInDim S512x512 ![0, 1] bcast_S1x512_S512x512_0_1 (broadcastInDim S1x512 ![1] bcast_S512_S1x512_1 grp512)))
    (broadcastInDim S512x512 ![] bcast_S_S512x512 (constant (F := Ideal) S_ .f32 0x3F800000#32))
    (broadcastInDim S512x512 ![] bcast_S_S512x512 (constant (F := Ideal) S_ .f32 0x00000000#32))) bitsLt_bf16_f32
theorem bdq_entry (c : Dev nD) : V m c main_v17 = bdq := by rfl
theorem bdq_at (k l : Fin 512) : bdq (ix2 k l) = if k.val / 64 = l.val / 64 then (1 : EReal) else 0 := by
  pointwise [bdq, grp512_at]
  exact mask_at _ _ (by omega) (by omega)
/-- The query mask's block, read at an element. -/
theorem bdq_blk (c : Dev nD) (t : Fin cfg0.N) (k l : Fin 512) :
    iblk m c 5 t (ix2 k l) = if k.val / 64 = l.val / 64 then (1 : EReal) else 0 := by
  refine Eq.trans ?_ (bdq_at k l)
  blk_simp [iblk]
  rw [bdq_entry]
  blk_ext [idx t]

/-- The group number of a channel, as the words the mask is made of. -/
def grp256 : IVec S256 32 := Host.divsi (iotaInDim S256 32 0) (broadcastInDim S256 ![] bcast_S_S256 (constantI S_ 32 64#32))
theorem grp256_at (k : Fin 256) : grp256 (ix1 k) = BitVec.ofNat 32 (k.val / 64) := by
  revert k
  decide +kernel
/-- The mask of the key groups: one where two channels belong to the same head. -/
def bdk : FVec Ideal S256x256 .bf16 :=
  truncf .bf16 (select (cmpi .eq (broadcastInDim S256x256 ![0, 1] bcast_S256x1_S256x256_0_1 (broadcastInDim S256x1 ![0] bcast_S256_S256x1_0 grp256))
      (broadcastInDim S256x256 ![0, 1] bcast_S1x256_S256x256_0_1 (broadcastInDim S1x256 ![1] bcast_S256_S1x256_1 grp256)))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32
theorem bdk_entry (c : Dev nD) : V m c main_v27 = bdk := by rfl
theorem bdk_at (k l : Fin 256) : bdk (ix2 k l) = if k.val / 64 = l.val / 64 then (1 : EReal) else 0 := by
  pointwise [bdk, grp256_at]
  exact mask_at _ _ (by omega) (by omega)
/-- The key mask's block, read at an element. -/
theorem bdk_blk (c : Dev nD) (t : Fin cfg0.N) (k l : Fin 256) :
    iblk m c 6 t (ix2 k l) = if k.val / 64 = l.val / 64 then (1 : EReal) else 0 := by
  refine Eq.trans ?_ (bdk_at k l)
  blk_simp [iblk]
  rw [bdk_entry]
  blk_ext [idx t]

section Real
variable (c : Dev nD) (zr : Fin 4096 → ℕ → ℝ) (g1 g2 : Fin 64 → ℝ)

/-- The normalised keys of a tile. -/
theorem kn_ker (hz : ∀ (R : Fin 4096) (k : Fin 1024), k.val < 768 → m ((c : Thread nD τ).loc main_arg0) (ix2 R k) = ((zr R k.val : ℝ) : EReal))
    (h2 : ∀ e, m ((c : Thread nD τ).loc main_arg2) (ix1 e) = ((g2 e : ℝ) : EReal)) (t : Fin cfg0.N) (r : Fin 256) (l : Fin 256) :
    k0_pay2 (iblk m c 1 t) (iblk m c 6 t) (iblk m c 4 t) (ix2 r l)
    = ((nrm (krow zr (row t r) (l.val / 64)) (g2 ⟨l.val % 64, by omega⟩) ⟨l.val % 64, by omega⟩ : ℝ) : EReal) := by
  have hk := fun k => k_blk m c t r k
  have hb := fun k l => bdk_blk m c t k l
  have hg := fun k => gk_blk m c t k
  generalize iblk m c 1 t = X at hk ⊢
  generalize iblk m c 6 t = B at hb ⊢
  generalize iblk m c 4 t = G at hg ⊢
  pointwise [k0_pay2]
  rw [hg, h2]
  refine nrm_ker (A := 4) (N := 256) rfl (fun a => krow zr (row t r) a.val) ⟨l.val / 64, by omega⟩ ⟨l.val % 64, by omega⟩ _ (fun k => X (ix2 r k)) (fun k => B (ix2 k l)) ?_ ?_ _ ?_
  · intro k a s ha hs
    refine (hk k).trans ((hz _ _ (by show 512 + k.val < 768; omega)).trans ?_)
    show ((zr _ (512 + k.val) : ℝ) : EReal) = ((zr _ (512 + (a.val * 64 + s.val)) : ℝ) : EReal)
    rw [← ha, ← hs, Nat.div_add_mod' k.val 64]
  · intro k a ha
    refine (hb k l).trans (if_congr ?_ rfl rfl)
    rw [ha, Fin.ext_iff]
  · refine (hk l).trans ((hz _ _ (by show 512 + l.val < 768; omega)).trans ?_)
    show ((zr _ (512 + l.val) : ℝ) : EReal) = ((zr _ (512 + (l.val / 64 * 64 + l.val % 64)) : ℝ) : EReal)
    rw [Nat.div_add_mod' l.val 64]

/-- The normalised and scaled queries of a tile. -/
theorem qn_ker (hz : ∀ (R : Fin 4096) (k : Fin 1024), k.val < 768 → m ((c : Thread nD τ).loc main_arg0) (ix2 R k) = ((zr R k.val : ℝ) : EReal))
    (h1 : ∀ e, m ((c : Thread nD τ).loc main_arg1) (ix1 e) = ((g1 e : ℝ) : EReal)) (t : Fin cfg0.N) (r : Fin 256) (l : Fin 512) :
    k0_pay11 (iblk m c 0 t) (iblk m c 5 t) (iblk m c 3 t) (ix2 r l)
    = ((nrm (qrow zr (row t r) (l.val / 64)) (g1 ⟨l.val % 64, by omega⟩) ⟨l.val % 64, by omega⟩ * (1 / 8) : ℝ) : EReal) := by
  have hk := fun k => q_blk m c t r k
  have hb := fun k l => bdq_blk m c t k l
  have hg := fun k => gq_blk m c t k
  generalize iblk m c 0 t = X at hk ⊢
  generalize iblk m c 5 t = B at hb ⊢
  generalize iblk m c 3 t = G at hg ⊢
  pointwise [k0_pay11]
  rw [hg, h1, ofBits_eighth, EReal.coe_mul]
  refine congrArg (· * ((1 / 8 : ℝ) : EReal)) ?_
  refine nrm_ker (A := 8) (N := 512) rfl (fun a => qrow zr (row t r) a.val) ⟨l.val / 64, by omega⟩ ⟨l.val % 64, by omega⟩ _ (fun k => X (ix2 r k)) (fun k => B (ix2 k l)) ?_ ?_ _ ?_
  · intro k a s ha hs
    refine (hk k).trans ((hz _ _ (by show k.val < 768; omega)).trans ?_)
    show ((zr _ k.val : ℝ) : EReal) = ((zr _ (a.val * 64 + s.val) : ℝ) : EReal)
    rw [← ha, ← hs, Nat.div_add_mod' k.val 64]
  · intro k a ha
    refine (hb k l).trans (if_congr ?_ rfl rfl)
    rw [ha, Fin.ext_iff]
  · refine (hk l).trans ((hz _ _ (by show l.val < 768; omega)).trans ?_)
    show ((zr _ l.val : ℝ) : EReal) = ((zr _ (l.val / 64 * 64 + l.val % 64) : ℝ) : EReal)
    rw [Nat.div_add_mod' l.val 64]

end Real
end Cert.KernelIdeal.Attn
-- ==== Proof.AttnRef.lean ====
module

public import proofs.«01_k».proof.Proof.Gen.ReferenceIdeal.Run
public import proofs.«01_k».proof.Proof.Gen.ReferenceIdeal.Read
public import proofs.«01_k».proof.Proof.RealRows
public import Idealize.ShloMosaic.Lib.Pointwise
public import Idealize.ShloMosaic.Lib.Pipeline.ValueKit

@[expose] public section
set_option maxRecDepth 16384
noncomputable section

open Idealize.ShloMosaic
/-! The attention call's reference over real operands: its normalised queries and keys, its scores and its results,
    read at an element. -/
namespace Cert.ReferenceIdeal.Attn
open Cert.ReferenceIdeal.Read Cert.RealRows

variable (zr : Fin 4096 → ℕ → ℝ) (g1 g2 : Fin 64 → ℝ)
variable (za : FVec Ideal Cert.ReferenceIdeal.S4096x1024 .f32) (qg kg : FVec Ideal Cert.ReferenceIdeal.S64 .f32)

/-- The reference's values, read at an element. -/
theorem v_ref (b : Fin 16) (j : Fin 256) (h : Fin 4) (d : Fin 64) :
    val_main_v32 (F := Ideal) za (ix4 b j h d) = za (ix2 (row b j) ⟨768 + (h.val * 64 + d.val), by omega⟩) := by
  pointwise [val_main_v32, val_main_v3, val_main_v0]
/-- The reference's keys before the norm. -/
theorem k_ref (b : Fin 16) (j : Fin 256) (h : Fin 4) (d : Fin 64) :
    val_main_v18 (F := Ideal) za (ix4 b j h d) = za (ix2 (row b j) ⟨512 + (h.val * 64 + d.val), by omega⟩) := by
  pointwise [val_main_v18, val_main_v2, val_main_v0]
/-- The reference's queries before the norm. -/
theorem q_ref (b : Fin 16) (j : Fin 256) (h : Fin 8) (d : Fin 64) :
    val_main_v4 (F := Ideal) za (ix4 b j h d) = za (ix2 (row b j) ⟨h.val * 64 + d.val, by omega⟩) := by
  pointwise [val_main_v4, val_main_v1, val_main_v0]

/-- The reference's normalised keys. -/
theorem kn_ref (hz : ∀ (R : Fin 4096) (k : Fin 1024), k.val < 768 → za (ix2 R k) = ((zr R k.val : ℝ) : EReal))
    (h2 : ∀ e, kg (ix1 e) = ((g2 e : ℝ) : EReal)) (b : Fin 16) (j : Fin 256) (h : Fin 4) (d : Fin 64) :
    val_main_v31 (F := Ideal) za kg (ix4 b j h d) = ((nrm (krow zr (row b j) h.val) (g2 d) d : ℝ) : EReal) := by
  have hk : ∀ e, val_main_v18 (F := Ideal) za (ix4 b j h e) = ((krow zr (row b j) h.val e : ℝ) : EReal) := fun e => by
    rw [k_ref]; exact hz _ _ (by show 512 + (h.val * 64 + e.val) < 768; omega)
  unfold val_main_v31 val_main_v28 val_main_v27 val_main_v26 val_main_v25 val_main_v23 val_main_v21 val_main_v20 val_main_v19
  generalize val_main_v18 (F := Ideal) za = X at hk ⊢
  pointwise [val_main_v30, val_main_v29, val_main_v24, val_main_v22, val_main_cst_2, val_main_cst_3, val_main_cst_4]
  simp only [hk, h2]
  exact nrm_ref _ _ _

/-- The reference's normalised queries. -/
theorem qn_ref (hz : ∀ (R : Fin 4096) (k : Fin 1024), k.val < 768 → za (ix2 R k) = ((zr R k.val : ℝ) : EReal))
    (h1 : ∀ e, qg (ix1 e) = ((g1 e : ℝ) : EReal)) (b : Fin 16) (j : Fin 256) (h : Fin 8) (d : Fin 64) :
    val_main_v17 (F := Ideal) za qg (ix4 b j h d) = ((nrm (qrow zr (row b j) h.val) (g1 d) d : ℝ) : EReal) := by
  have hk : ∀ e, val_main_v4 (F := Ideal) za (ix4 b j h e) = ((qrow zr (row b j) h.val e : ℝ) : EReal) := fun e => by
    rw [q_ref]; exact hz _ _ (by show h.val * 64 + e.val < 768; omega)
  unfold val_main_v17 val_main_v14 val_main_v13 val_main_v12 val_main_v11 val_main_v9 val_main_v7 val_main_v6 val_main_v5
  generalize val_main_v4 (F := Ideal) za = X at hk ⊢
  pointwise [val_main_v16, val_main_v15, val_main_v10, val_main_v8, val_main_cst, val_main_cst_0, val_main_cst_1]
  simp only [hk, h1]
  exact nrm_ref _ _ _

/-- The reference's queries, grouped by the key head they attend with. -/
theorem qg_ref (b : Fin 16) (q : Fin 256) (h : Fin 4) (g : Fin 2) (e : Fin 64) :
    val_main_v33 (F := Ideal) za qg (ix5 b q h g e) = val_main_v17 (F := Ideal) za qg (ix4 b q ⟨h.val * 2 + g.val, by omega⟩ e) := by
  unfold val_main_v33
  generalize val_main_v17 (F := Ideal) za qg = X
  pointwise

/-- The reference's scores. -/
theorem s_ref (hz : ∀ (R : Fin 4096) (k : Fin 1024), k.val < 768 → za (ix2 R k) = ((zr R k.val : ℝ) : EReal))
    (h1 : ∀ e, qg (ix1 e) = ((g1 e : ℝ) : EReal)) (h2 : ∀ e, kg (ix1 e) = ((g2 e : ℝ) : EReal))
    (b : Fin 16) (h : Fin 4) (g : Fin 2) (q j : Fin 256) :
    val_main_v37 (F := Ideal) za qg kg (ix5 b h g q j)
    = ((score (fun e => nrm (qrow zr (row b q) (h.val * 2 + g.val)) (g1 e) e) (fun j e => nrm (krow zr (row b j) h.val) (g2 e) e) j : ℝ) : EReal) := by
  have hk := fun e => kn_ref zr g2 za kg hz h2 b j h e
  have hq := fun e => (qg_ref za qg b q h g e).trans (qn_ref zr g1 za qg hz h1 b q _ e)
  unfold val_main_v37 val_main_v35 val_main_v34
  generalize val_main_v31 (F := Ideal) za kg = K at hk ⊢
  generalize val_main_v33 (F := Ideal) za qg = Q at hq ⊢
  pointwise [val_main_v36, val_main_cst_5]
  simp only [hk, hq]
  exact score_ref _ _

/-- The reference's row maxima. -/
theorem max_ref (b : Fin 16) (h : Fin 4) (g : Fin 2) (q : Fin 256) :
    val_main_v38 (F := Ideal) za qg kg (ix4 b h g q)
    = Finset.univ.fold max (⊥ : EReal) (fun j : Fin 256 => val_main_v37 (F := Ideal) za qg kg (ix5 b h g q j)) := by
  unfold val_main_v38
  generalize val_main_v37 (F := Ideal) za qg kg = X
  have hr : Cert.ReferenceIdeal.S16x4x2x256x256.Reduces [4] Cert.ReferenceIdeal.S16x4x2x256 := by decide
  refine (Host.reduce_eq_fold_single (FloatOps.maximumf (F := Ideal) (φ := .f32)) X (val_main_cst_6 (F := Ideal)) _ hr _ _).trans ?_
  have hi : (val_main_cst_6 (F := Ideal)) (Shape.Idx.first Cert.ReferenceIdeal.Gen.h_S_) = (⊥ : EReal) := ofBits_bot
  rw [hi]
  have hl : X ∘ hr.lift (ix4 b h g q) = fun j : Fin 256 => X (ix5 b h g q j) := by
    funext k
    refine congrArg X ?_
    funext a
    exact Fin.ext (match a with | ⟨0, _⟩ => rfl | ⟨1, _⟩ => rfl | ⟨2, _⟩ => rfl | ⟨3, _⟩ => rfl | ⟨4, _⟩ => rfl)
  rw [hl]
  rfl

/-- The reference's softmax of a row of scores. -/
theorem w_ref (b : Fin 16) (h : Fin 4) (g : Fin 2) (q j : Fin 256) :
    val_main_v48 (F := Ideal) za qg kg (ix5 b h g q j)
    = Ideal.div (Ideal.exp (val_main_v37 (F := Ideal) za qg kg (ix5 b h g q j) - max ⊥ (val_main_v38 (F := Ideal) za qg kg (ix4 b h g q))))
        (∑ x : Fin 256, Ideal.exp (val_main_v37 (F := Ideal) za qg kg (ix5 b h g q x) - max ⊥ (val_main_v38 (F := Ideal) za qg kg (ix4 b h g q)))) := by
  have i1 : ∀ x : Fin 256, idx_main_v41 (idx_main_v42 (ix5 b h g q x)) = ix4 b h g q := fun _ => funext fun a => Fin.ext
    (match a with | ⟨0, _⟩ => rfl | ⟨1, _⟩ => rfl | ⟨2, _⟩ => rfl | ⟨3, _⟩ => rfl)
  have i2 : idx_main_v46 (idx_main_v47 (ix5 b h g q j)) = ix4 b h g q := funext fun a => Fin.ext
    (match a with | ⟨0, _⟩ => rfl | ⟨1, _⟩ => rfl | ⟨2, _⟩ => rfl | ⟨3, _⟩ => rfl)
  have i3 : ∀ x : Fin 256, idx_main_v45 (ix4 b h g q) x = ix5 b h g q x := fun _ => funext fun a => Fin.ext
    (match a with | ⟨0, _⟩ => rfl | ⟨1, _⟩ => rfl | ⟨2, _⟩ => rfl | ⟨3, _⟩ => rfl | ⟨4, _⟩ => rfl)
  have he : ∀ x : Fin 256, val_main_v44 (F := Ideal) za qg kg (ix5 b h g q x)
      = Ideal.exp (val_main_v37 (F := Ideal) za qg kg (ix5 b h g q x) - max ⊥ (val_main_v38 (F := Ideal) za qg kg (ix4 b h g q))) := by
    intro x
    rw [val_main_v44_apply, val_main_v43_apply, val_main_v42_apply, val_main_v41_apply, i1, val_main_v40_apply, val_main_v39_apply, val_main_cst_7_apply, ← ofBits_bot]
    rfl
  rw [val_main_v48_apply, val_main_v47_apply, val_main_v46_apply, i2, val_main_v45_apply, val_main_cst_8_apply]
  simp only [i3, he]
  rw [show (FloatOps.ofBits .f32 0x00000000#32 : Ideal .f32) = (0 : EReal) from ofBits_zero, zero_add]
  rfl

/-- The reference's result as weighted values. -/
theorem v52_at (b : Fin 16) (h : Fin 4) (g : Fin 2) (q : Fin 256) (d : Fin 64) :
    val_main_v52 (F := Ideal) za qg kg (ix2 (row b q) ⟨(h.val * 2 + g.val) * 64 + d.val, by omega⟩)
    = ∑ x : Fin 256, val_main_v32 (F := Ideal) za (ix4 b x h d) * val_main_v48 (F := Ideal) za qg kg (ix5 b h g q x) := by
  have e1 : ∀ H, (⟨(b.val * 256 + q.val) / 256, H⟩ : Fin 16) = b := fun _ => Fin.ext (by show (b.val * 256 + q.val) / 256 = b.val; omega)
  have e2 : ∀ H, (⟨(b.val * 256 + q.val) % 256, H⟩ : Fin 256) = q := fun _ => Fin.ext (by show (b.val * 256 + q.val) % 256 = q.val; omega)
  unfold val_main_v52 val_main_v51 val_main_v50 val_main_v49
  generalize val_main_v32 (F := Ideal) za = V
  generalize val_main_v48 (F := Ideal) za qg kg = W
  pointwise
  simp only [e1, e2]

/-- The reference's second result: the normalised keys. -/
theorem v53_at (b : Fin 16) (j : Fin 256) (l : Fin 256) :
    val_main_v53 (F := Ideal) za kg (ix2 (row b j) l) = val_main_v31 (F := Ideal) za kg (ix4 b j ⟨l.val / 64, by omega⟩ ⟨l.val % 64, by omega⟩) := by
  have e1 : ∀ H, (⟨(b.val * 256 + j.val) / 256, H⟩ : Fin 16) = b := fun _ => Fin.ext (by show (b.val * 256 + j.val) / 256 = b.val; omega)
  have e2 : ∀ H, (⟨(b.val * 256 + j.val) % 256, H⟩ : Fin 256) = j := fun _ => Fin.ext (by show (b.val * 256 + j.val) % 256 = j.val; omega)
  unfold val_main_v53
  generalize val_main_v31 (F := Ideal) za kg = K
  pointwise
  simp only [e1, e2]

/-- The reference's third result: the values. -/
theorem v54_at (b : Fin 16) (j : Fin 256) (l : Fin 256) :
    val_main_v54 (F := Ideal) za (ix2 (row b j) l) = val_main_v32 (F := Ideal) za (ix4 b j ⟨l.val / 64, by omega⟩ ⟨l.val % 64, by omega⟩) := by
  have e1 : ∀ H, (⟨(b.val * 256 + j.val) / 256, H⟩ : Fin 16) = b := fun _ => Fin.ext (by show (b.val * 256 + j.val) / 256 = b.val; omega)
  have e2 : ∀ H, (⟨(b.val * 256 + j.val) % 256, H⟩ : Fin 256) = j := fun _ => Fin.ext (by show (b.val * 256 + j.val) % 256 = j.val; omega)
  unfold val_main_v54
  generalize val_main_v32 (F := Ideal) za = K
  pointwise
  simp only [e1, e2]

/-- The reference's attention output at a row and a column. -/
theorem o_ref (hz : ∀ (R : Fin 4096) (k : Fin 1024), k.val < 768 → za (ix2 R k) = ((zr R k.val : ℝ) : EReal))
    (h1 : ∀ e, qg (ix1 e) = ((g1 e : ℝ) : EReal)) (h2 : ∀ e, kg (ix1 e) = ((g2 e : ℝ) : EReal))
    (b : Fin 16) (h : Fin 4) (g : Fin 2) (q : Fin 256) (d : Fin 64) :
    val_main_v52 (F := Ideal) za qg kg (ix2 (row b q) ⟨(h.val * 2 + g.val) * 64 + d.val, by omega⟩)
    = att (fun e => nrm (qrow zr (row b q) (h.val * 2 + g.val)) (g1 e) e) (fun j e => nrm (krow zr (row b j) h.val) (g2 e) e)
        (fun j => za (ix2 (row b j) ⟨768 + (h.val * 64 + d.val), by omega⟩)) := by
  rw [v52_at]
  unfold att
  refine Finset.sum_congr rfl fun j _ => ?_
  rw [v_ref]
  refine congrArg (_ * ·) ?_
  rw [w_ref]
  simp only [max_ref, s_ref zr g1 g2 za qg kg hz h1 h2]

end Cert.ReferenceIdeal.Attn
-- ==== Proof.AttnValue.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.AttnTile
public import proofs.«01_k».proof.Proof.AttnRef
public import Idealize.ShloMosaic.Lib.Pointwise
public import Idealize.ShloMosaic.Lib.Pipeline.ValueKit
public import Idealize.ShloMosaic.Lib.Pipeline.ReadBack

@[expose] public section
set_option maxRecDepth 16384
noncomputable section

open Idealize.ShloMosaic Idealize.ShloMosaic.TcCoe Idealize.SL.Sem
open Idealize.ShloMosaic.Pipeline (Dat)
namespace Cert.KernelIdeal.Attn
open Cert.KernelIdeal Cert.KernelIdeal.Gen Cert.ReferenceIdeal.Read Cert.ReferenceIdeal.Attn Cert.RealRows

variable (m : (ℓ : Loc nD τ sig) → Buf (Elt Ideal) ℓ)

section Real
/-- A head's weighted values from its stacked queries, keys and values, as the kernel computes them: the queries of the
    head's two groups one under the other. -/
def hstack (S : FVec Ideal S512x64 .f32) (K V : Vec Ideal S1x256x64 .bf16) : FVec Ideal S512x64 .f32 :=
  let s : FVec Ideal S512x256 .f32 := matmul dot_S512x64_S256x64_S512x256_1_1_0_0_n_n none (truncf .bf16 S bitsLt_bf16_f32)
    (shapeCast S256x64 K shapeCasts_S1x256x64_S256x64 : FVec Ideal S256x64 .bf16) (constant S512x256 .f32 0x00000000#32)
  k0_pay13 (exp (subf s (broadcastTo S512x256 (shapeCast S512x1
    (multiReduction .maximumf [1] S512 s 0xFF800000#32 reduces_S512x256_S512 (.inl rfl) rfl) shapeCasts_S512_S512x1) broadcasts_S512x1_S512x256))) V

/-- The two query groups of a head, stacked: columns `o` and `o + 64` of the scaled queries. -/
def stack (Q : FVec Ideal S256x512 .f32) (o1 o2 : ℕ) (h1 : S256x512.Slices ![0, o1] S256x64) (h2 : S256x512.Slices ![0, o2] S256x64) : FVec Ideal S512x64 .f32 :=
  concatenate S512x64 0 [⟨S256x64, extractStridedSlice S256x64 ![0, o1] Q h1⟩, ⟨S256x64, extractStridedSlice S256x64 ![0, o2] Q h2⟩] concatenates_S256x64_S256x64_S512x64_d0

theorem hstack_at (S : FVec Ideal S512x64 .f32) (K V : Vec Ideal S1x256x64 .bf16) (R : Fin 512) (d : Fin 64) :
    hstack S K V (ix2 R d) = Ideal.div
      (∑ x : Fin 256, Ideal.exp (∑ e : Fin 64, S (ix2 R e) * K (ix3 0 x e) -
          Finset.univ.fold max (Ideal.ofBits FTy.f32 0xFF800000#32) (fun x : Fin 256 => ∑ e : Fin 64, S (ix2 R e) * K (ix3 0 x e))) * V (ix3 0 x d))
      (∑ x : Fin 256, Ideal.exp (∑ e : Fin 64, S (ix2 R e) * K (ix3 0 x e) -
          Finset.univ.fold max (Ideal.ofBits FTy.f32 0xFF800000#32) (fun x : Fin 256 => ∑ e : Fin 64, S (ix2 R e) * K (ix3 0 x e)))) := by
  pointwise [hstack, k0_pay13]

/-- Over real queries and keys a head's row is the attention of its query over the keys. -/
theorem hstack_att (S : FVec Ideal S512x64 .f32) (K V : Vec Ideal S1x256x64 .bf16) (R : Fin 512) (d : Fin 64)
    (q : Fin 64 → ℝ) (k : Fin 256 → Fin 64 → ℝ) (v : Fin 256 → EReal)
    (hS : ∀ e, S (ix2 R e) = ((q e * (1 / 8) : ℝ) : EReal)) (hK : ∀ x e, K (ix3 0 x e) = ((k x e : ℝ) : EReal)) (hV : ∀ x, V (ix3 0 x d) = v x) :
    hstack S K V (ix2 R d) = att q k v := by
  have hs : ∀ x, ∑ e : Fin 64, S (ix2 R e) * K (ix3 0 x e) = ((score q k x : ℝ) : EReal) := fun x => by
    simp only [hS, hK, ← EReal.coe_mul, coe_sum]
    rfl
  rw [hstack_at]
  simp only [hs, hV, ofBits_bot]
  exact softmax_row _ _

/-- The first group's rows of a head. -/
theorem head_lo (Q : FVec Ideal S256x512 .f32) (o1 o2 : ℕ) (h1 : S256x512.Slices ![0, o1] S256x64) (h2 : S256x512.Slices ![0, o2] S256x64)
    (K V : Vec Ideal S1x256x64 .bf16) (r : Fin 256) (d : Fin 64) (q : Fin 64 → ℝ) (k : Fin 256 → Fin 64 → ℝ) (v : Fin 256 → EReal)
    (hQ : ∀ (l : Fin 512) (e : Fin 64), l.val = o1 + e.val → Q (ix2 r l) = ((q e * (1 / 8) : ℝ) : EReal))
    (hK : ∀ x e, K (ix3 0 x e) = ((k x e : ℝ) : EReal)) (hV : ∀ x, V (ix3 0 x d) = v x) :
    extractStridedSlice S256x64 ![0, 0] (hstack (stack Q o1 o2 h1 h2) K V) slices_S512x64_o0_0_S256x64 (ix2 r d) = att q k v := by
  have hS : ∀ e, stack Q o1 o2 h1 h2 (ix2 ⟨r.val, by omega⟩ e) = ((q e * (1 / 8) : ℝ) : EReal) := fun e => by
    pointwise [stack]
    exact hQ _ e rfl
  refine Eq.trans ?_ (hstack_att _ K V ⟨r.val, by omega⟩ d q k v hS hK hV)
  generalize hstack (stack Q o1 o2 h1 h2) K V = H
  pointwise

/-- The second group's rows of a head. -/
theorem head_hi (Q : FVec Ideal S256x512 .f32) (o1 o2 : ℕ) (h1 : S256x512.Slices ![0, o1] S256x64) (h2 : S256x512.Slices ![0, o2] S256x64)
    (K V : Vec Ideal S1x256x64 .bf16) (r : Fin 256) (d : Fin 64) (q : Fin 64 → ℝ) (k : Fin 256 → Fin 64 → ℝ) (v : Fin 256 → EReal)
    (hQ : ∀ (l : Fin 512) (e : Fin 64), l.val = o2 + e.val → Q (ix2 r l) = ((q e * (1 / 8) : ℝ) : EReal))
    (hK : ∀ x e, K (ix3 0 x e) = ((k x e : ℝ) : EReal)) (hV : ∀ x, V (ix3 0 x d) = v x) :
    extractStridedSlice S256x64 ![256, 0] (hstack (stack Q o1 o2 h1 h2) K V) slices_S512x64_o256_0_S256x64 (ix2 r d) = att q k v := by
  have hS : ∀ e, stack Q o1 o2 h1 h2 (ix2 ⟨256 + r.val, by omega⟩ e) = ((q e * (1 / 8) : ℝ) : EReal) := fun e => by
    pointwise [stack]
    exact hQ _ e rfl
  refine Eq.trans ?_ (hstack_att _ K V ⟨256 + r.val, by omega⟩ d q k v hS hK hV)
  generalize hstack (stack Q o1 o2 h1 h2) K V = H
  pointwise

theorem tile_out (Q : FVec Ideal S256x512 .f32) (P0 : FVec Ideal S512x256 .f32) (V0 K1 V1 K2 V2 K3 V3 : Vec Ideal S1x256x64 .bf16) :
    k0_pay1 Q (k0_pay14 P0 V0) (k0_pay15 P0 V0) (k0_pay17 Q K1 V1) (k0_pay18 Q K1 V1) (k0_pay19 Q K2) (k0_pay20 Q K2) V2 K3 V3
    = concatenate S256x512 1 [⟨S256x64, extractStridedSlice S256x64 ![0, 0] (k0_pay13 P0 V0) slices_S512x64_o0_0_S256x64⟩,
       ⟨S256x64, extractStridedSlice S256x64 ![256, 0] (k0_pay13 P0 V0) slices_S512x64_o256_0_S256x64⟩,
       ⟨S256x64, extractStridedSlice S256x64 ![0, 0] (hstack (stack Q 128 192 slices_S256x512_o0_128_S256x64 slices_S256x512_o0_192_S256x64) K1 V1) slices_S512x64_o0_0_S256x64⟩,
       ⟨S256x64, extractStridedSlice S256x64 ![256, 0] (hstack (stack Q 128 192 slices_S256x512_o0_128_S256x64 slices_S256x512_o0_192_S256x64) K1 V1) slices_S512x64_o256_0_S256x64⟩,
       ⟨S256x64, extractStridedSlice S256x64 ![0, 0] (hstack (stack Q 256 320 slices_S256x512_o0_256_S256x64 slices_S256x512_o0_320_S256x64) K2 V2) slices_S512x64_o0_0_S256x64⟩,
       ⟨S256x64, extractStridedSlice S256x64 ![256, 0] (hstack (stack Q 256 320 slices_S256x512_o0_256_S256x64 slices_S256x512_o0_320_S256x64) K2 V2) slices_S512x64_o256_0_S256x64⟩,
       ⟨S256x64, extractStridedSlice S256x64 ![0, 0] (hstack (stack Q 384 448 slices_S256x512_o0_384_S256x64 slices_S256x512_o0_448_S256x64) K3 V3) slices_S512x64_o0_0_S256x64⟩,
       ⟨S256x64, extractStridedSlice S256x64 ![256, 0] (hstack (stack Q 384 448 slices_S256x512_o0_384_S256x64 slices_S256x512_o0_448_S256x64) K3 V3) slices_S512x64_o256_0_S256x64⟩]
      concatenates_S256x64_S256x64_S256x64_S256x64_S256x64_S256x64_S256x64_S256x64_S256x512_d1 := rfl

theorem tile_out0 (X : Vec Ideal S256x512 .f32) (B : Vec Ideal S512x512 .bf16) (G : Vec Ideal S1x512 .f32) (K0 V0 : Vec Ideal S1x256x64 .bf16) :
    k0_pay13 (k0_pay12 X B G K0) V0 = hstack (stack (k0_pay11 X B G) 0 64 slices_S256x512_o0_0_S256x64 slices_S256x512_o0_64_S256x64) K0 V0 := rfl

/-- The eight results side by side: column `n` of the tile is column `n % 64` of result `n / 64`. -/
theorem cat_at (p : Fin 8 → FVec Ideal S256x64 .f32) (r : Fin 256) (l : Fin 512) :
    concatenate S256x512 1 [⟨S256x64, p 0⟩, ⟨S256x64, p 1⟩, ⟨S256x64, p 2⟩, ⟨S256x64, p 3⟩, ⟨S256x64, p 4⟩, ⟨S256x64, p 5⟩, ⟨S256x64, p 6⟩, ⟨S256x64, p 7⟩]
      concatenates_S256x64_S256x64_S256x64_S256x64_S256x64_S256x64_S256x64_S256x64_S256x512_d1 (ix2 r l)
    = p ⟨l.val / 64, by omega⟩ (ix2 r ⟨l.val % 64, by omega⟩) := by
  have aux : ∀ (i j : Fin 8) (a b : Fin 64), i.val = j.val → a.val = b.val → p i (ix2 r a) = p j (ix2 r b) := fun i j a b h1 h2 => by
    rw [Fin.ext h1, Fin.ext h2]
  pointwise
  by_cases h0 : l.val < 64
  · rw [dif_pos h0]
    exact aux _ _ _ _ (show 0 = l.val / 64 by omega) (show l.val = l.val % 64 by omega)
  by_cases h1 : l.val - 64 < 64
  · rw [dif_neg h0, dif_pos h1]
    exact aux _ _ _ _ (show 1 = l.val / 64 by omega) (show l.val - 64 = l.val % 64 by omega)
  by_cases h2 : l.val - 64 - 64 < 64
  · rw [dif_neg h0, dif_neg h1, dif_pos h2]
    exact aux _ _ _ _ (show 2 = l.val / 64 by omega) (show l.val - 64 - 64 = l.val % 64 by omega)
  by_cases h3 : l.val - 64 - 64 - 64 < 64
  · rw [dif_neg h0, dif_neg h1, dif_neg h2, dif_pos h3]
    exact aux _ _ _ _ (show 3 = l.val / 64 by omega) (show l.val - 64 - 64 - 64 = l.val % 64 by omega)
  by_cases h4 : l.val - 64 - 64 - 64 - 64 < 64
  · rw [dif_neg h0, dif_neg h1, dif_neg h2, dif_neg h3, dif_pos h4]
    exact aux _ _ _ _ (show 4 = l.val / 64 by omega) (show l.val - 64 - 64 - 64 - 64 = l.val % 64 by omega)
  by_cases h5 : l.val - 64 - 64 - 64 - 64 - 64 < 64
  · rw [dif_neg h0, dif_neg h1, dif_neg h2, dif_neg h3, dif_neg h4, dif_pos h5]
    exact aux _ _ _ _ (show 5 = l.val / 64 by omega) (show l.val - 64 - 64 - 64 - 64 - 64 = l.val % 64 by omega)
  by_cases h6 : l.val - 64 - 64 - 64 - 64 - 64 - 64 < 64
  · rw [dif_neg h0, dif_neg h1, dif_neg h2, dif_neg h3, dif_neg h4, dif_neg h5, dif_pos h6]
    exact aux _ _ _ _ (show 6 = l.val / 64 by omega) (show l.val - 64 - 64 - 64 - 64 - 64 - 64 = l.val % 64 by omega)
  rw [dif_neg h0, dif_neg h1, dif_neg h2, dif_neg h3, dif_neg h4, dif_neg h5, dif_neg h6]
  exact aux _ _ _ _ (show 7 = l.val / 64 by omega) (show l.val - 64 - 64 - 64 - 64 - 64 - 64 - 64 = l.val % 64 by omega)

/-- What the first output's block is after a point. -/
theorem out7 (c : Dev nD) (t : Fin cfg0.N) : (outsAt0 m c t).1 =
    k0_pay1 (k0_pay11 (iblk m c 0 t) (iblk m c 5 t) (iblk m c 3 t))
      (k0_pay14 (k0_pay12 (iblk m c 0 t) (iblk m c 5 t) (iblk m c 3 t) (k0_pay3 (iblk m c 1 t) (iblk m c 6 t) (iblk m c 4 t))) (k0_pay4 (iblk m c 2 t)))
      (k0_pay15 (k0_pay12 (iblk m c 0 t) (iblk m c 5 t) (iblk m c 3 t) (k0_pay3 (iblk m c 1 t) (iblk m c 6 t) (iblk m c 4 t))) (k0_pay4 (iblk m c 2 t)))
      (k0_pay17 (k0_pay11 (iblk m c 0 t) (iblk m c 5 t) (iblk m c 3 t)) (k0_pay5 (k0_pay2 (iblk m c 1 t) (iblk m c 6 t) (iblk m c 4 t))) (k0_pay6 (iblk m c 2 t)))
      (k0_pay18 (k0_pay11 (iblk m c 0 t) (iblk m c 5 t) (iblk m c 3 t)) (k0_pay5 (k0_pay2 (iblk m c 1 t) (iblk m c 6 t) (iblk m c 4 t))) (k0_pay6 (iblk m c 2 t)))
      (k0_pay19 (k0_pay11 (iblk m c 0 t) (iblk m c 5 t) (iblk m c 3 t)) (k0_pay7 (k0_pay2 (iblk m c 1 t) (iblk m c 6 t) (iblk m c 4 t))))
      (k0_pay20 (k0_pay11 (iblk m c 0 t) (iblk m c 5 t) (iblk m c 3 t)) (k0_pay7 (k0_pay2 (iblk m c 1 t) (iblk m c 6 t) (iblk m c 4 t))))
      (k0_pay8 (iblk m c 2 t)) (k0_pay9 (k0_pay2 (iblk m c 1 t) (iblk m c 6 t) (iblk m c 4 t))) (k0_pay10 (iblk m c 2 t)) := by
  unfold outsAt0
  frame_open
  simp (disch := decide) only [↓ View.readCov_skip, ↓ View.readCov_cons_toLoadRect, ↓ View.readCov_fill]
  frame_out
/-- What the second output's block is after a point: the normalised keys. -/
theorem out8 (c : Dev nD) (t : Fin cfg0.N) : (outsAt0 m c t).2.1 = k0_pay2 (iblk m c 1 t) (iblk m c 6 t) (iblk m c 4 t) := by
  unfold outsAt0
  frame_out
/-- What the third output's block is after a point: the values. -/
theorem out9 (c : Dev nD) (t : Fin cfg0.N) : (outsAt0 m c t).2.2 = iblk m c 2 t := by
  unfold outsAt0
  frame_out

/-- The stored keys and values of a head are its 64 columns. -/
theorem key0 (X : Vec Ideal S256x256 .f32) (B : Vec Ideal S256x256 .bf16) (G : Vec Ideal S1x256 .f32) (x : Fin 256) (e : Fin 64) :
    k0_pay3 X B G (ix3 0 x e) = k0_pay2 X B G (ix2 x ⟨0 * 64 + e.val, by omega⟩) := by
  unfold k0_pay3
  generalize k0_pay2 X B G = N
  pointwise
theorem key1 (N : FVec Ideal S256x256 .f32) (x : Fin 256) (e : Fin 64) : k0_pay5 N (ix3 0 x e) = N (ix2 x ⟨1 * 64 + e.val, by omega⟩) := by
  pointwise [k0_pay5]
theorem key2 (N : FVec Ideal S256x256 .f32) (x : Fin 256) (e : Fin 64) : k0_pay7 N (ix3 0 x e) = N (ix2 x ⟨2 * 64 + e.val, by omega⟩) := by
  pointwise [k0_pay7]
theorem key3 (N : FVec Ideal S256x256 .f32) (x : Fin 256) (e : Fin 64) : k0_pay9 N (ix3 0 x e) = N (ix2 x ⟨3 * 64 + e.val, by omega⟩) := by
  pointwise [k0_pay9]
theorem val0 (N : Vec Ideal S256x256 .f32) (x : Fin 256) (e : Fin 64) : k0_pay4 N (ix3 0 x e) = N (ix2 x ⟨0 * 64 + e.val, by omega⟩) := by
  pointwise [k0_pay4]
theorem val1 (N : Vec Ideal S256x256 .f32) (x : Fin 256) (e : Fin 64) : k0_pay6 N (ix3 0 x e) = N (ix2 x ⟨1 * 64 + e.val, by omega⟩) := by
  pointwise [k0_pay6]
theorem val2 (N : Vec Ideal S256x256 .f32) (x : Fin 256) (e : Fin 64) : k0_pay8 N (ix3 0 x e) = N (ix2 x ⟨2 * 64 + e.val, by omega⟩) := by
  pointwise [k0_pay8]
theorem val3 (N : Vec Ideal S256x256 .f32) (x : Fin 256) (e : Fin 64) : k0_pay10 N (ix3 0 x e) = N (ix2 x ⟨3 * 64 + e.val, by omega⟩) := by
  pointwise [k0_pay10]

/-- The eight results side by side, at column `d` of result `n`. -/
theorem cat_at' (p : Fin 8 → FVec Ideal S256x64 .f32) (r : Fin 256) (n : Fin 8) (d : Fin 64) :
    concatenate S256x512 1 [⟨S256x64, p 0⟩, ⟨S256x64, p 1⟩, ⟨S256x64, p 2⟩, ⟨S256x64, p 3⟩, ⟨S256x64, p 4⟩, ⟨S256x64, p 5⟩, ⟨S256x64, p 6⟩, ⟨S256x64, p 7⟩]
      concatenates_S256x64_S256x64_S256x64_S256x64_S256x64_S256x64_S256x64_S256x64_S256x512_d1 (ix2 r ⟨n.val * 64 + d.val, by omega⟩)
    = p n (ix2 r d) := by
  rw [cat_at]
  have e1 : (⟨(n.val * 64 + d.val) / 64, by omega⟩ : Fin 8) = n := Fin.ext (by show (n.val * 64 + d.val) / 64 = n.val; omega)
  have e2 : (⟨(n.val * 64 + d.val) % 64, by omega⟩ : Fin 64) = d := Fin.ext (by show (n.val * 64 + d.val) % 64 = d.val; omega)
  rw [e1, e2]

variable (c : Dev nD) (zr : Fin 4096 → ℕ → ℝ) (g1 g2 : Fin 64 → ℝ)

/-- The tile's first result, element by element: query head `2h + g` attending with key head `h`. -/
theorem tile_att (hz : ∀ (R : Fin 4096) (k : Fin 1024), k.val < 768 → m ((c : Thread nD τ).loc main_arg0) (ix2 R k) = ((zr R k.val : ℝ) : EReal))
    (h1 : ∀ e, m ((c : Thread nD τ).loc main_arg1) (ix1 e) = ((g1 e : ℝ) : EReal)) (h2 : ∀ e, m ((c : Thread nD τ).loc main_arg2) (ix1 e) = ((g2 e : ℝ) : EReal))
    (t : Fin cfg0.N) (r : Fin 256) (h : Fin 4) (g : Fin 2) (d : Fin 64) :
    (outsAt0 m c t).1 (ix2 r ⟨(h.val * 2 + g.val) * 64 + d.val, by omega⟩)
    = att (fun e => nrm (qrow zr (row t r) (h.val * 2 + g.val)) (g1 e) e) (fun j e => nrm (krow zr (row t j) h.val) (g2 e) e)
        (fun j => m ((c : Thread nD τ).loc main_arg0) (ix2 (row t j) (⟨768 + (h.val * 64 + d.val), by omega⟩ : Fin 1024))) := by
  rw [out7, tile_out, tile_out0]
  have hQ : ∀ (n : ℕ) (l : Fin 512) (e : Fin 64), l.val = n * 64 + e.val →
      k0_pay11 (iblk m c 0 t) (iblk m c 5 t) (iblk m c 3 t) (ix2 r l) = ((nrm (qrow zr (row t r) n) (g1 e) e * (1 / 8) : ℝ) : EReal) := by
    intro n l e hl
    rw [qn_ker m c zr g1 hz h1 t r l]
    have a1 : l.val / 64 = n := by omega
    have a2 : (⟨l.val % 64, by omega⟩ : Fin 64) = e := Fin.ext (by show l.val % 64 = e.val; omega)
    rw [a1, a2]
  have hK : ∀ (n : Fin 4) (x : Fin 256) (e : Fin 64), k0_pay2 (iblk m c 1 t) (iblk m c 6 t) (iblk m c 4 t) (ix2 x ⟨n.val * 64 + e.val, by omega⟩)
      = ((nrm (krow zr (row t x) n.val) (g2 e) e : ℝ) : EReal) := by
    intro n x e
    rw [kn_ker m c zr g2 hz h2 t x _]
    have a1 : (n.val * 64 + e.val) / 64 = n.val := by omega
    have a2 : (⟨(n.val * 64 + e.val) % 64, by omega⟩ : Fin 64) = e := Fin.ext (by show (n.val * 64 + e.val) % 64 = e.val; omega)
    show ((nrm (krow zr (row t x) ((n.val * 64 + e.val) / 64)) (g2 ⟨(n.val * 64 + e.val) % 64, _⟩) ⟨(n.val * 64 + e.val) % 64, _⟩ : ℝ) : EReal) = _
    rw [a1, a2]
  have hV : ∀ (n : Fin 4) (x : Fin 256), iblk m c 2 t (ix2 x ⟨n.val * 64 + d.val, by omega⟩)
      = m ((c : Thread nD τ).loc main_arg0) (ix2 (row t x) (⟨768 + (n.val * 64 + d.val), by omega⟩ : Fin 1024)) := fun n x => v_blk m c t x _
  have K0 := fun x e => (key0 (iblk m c 1 t) (iblk m c 6 t) (iblk m c 4 t) x e).trans (hK 0 x e)
  have K1 := fun x e => (key1 (k0_pay2 (iblk m c 1 t) (iblk m c 6 t) (iblk m c 4 t)) x e).trans (hK 1 x e)
  have K2 := fun x e => (key2 (k0_pay2 (iblk m c 1 t) (iblk m c 6 t) (iblk m c 4 t)) x e).trans (hK 2 x e)
  have K3 := fun x e => (key3 (k0_pay2 (iblk m c 1 t) (iblk m c 6 t) (iblk m c 4 t)) x e).trans (hK 3 x e)
  have V0 := fun x => (val0 (iblk m c 2 t) x d).trans (hV 0 x)
  have V1 := fun x => (val1 (iblk m c 2 t) x d).trans (hV 1 x)
  have V2 := fun x => (val2 (iblk m c 2 t) x d).trans (hV 2 x)
  have V3 := fun x => (val3 (iblk m c 2 t) x d).trans (hV 3 x)
  generalize k0_pay11 (iblk m c 0 t) (iblk m c 5 t) (iblk m c 3 t) = Q at hQ ⊢
  generalize k0_pay3 (iblk m c 1 t) (iblk m c 6 t) (iblk m c 4 t) = A0 at K0 ⊢
  generalize k0_pay2 (iblk m c 1 t) (iblk m c 6 t) (iblk m c 4 t) = N at K1 K2 K3 ⊢
  generalize k0_pay5 N = A1 at K1 ⊢
  generalize k0_pay7 N = A2 at K2 ⊢
  generalize k0_pay9 N = A3 at K3 ⊢
  generalize iblk m c 2 t = W at V0 V1 V2 V3 ⊢
  generalize k0_pay4 W = B0 at V0 ⊢
  generalize k0_pay6 W = B1 at V1 ⊢
  generalize k0_pay8 W = B2 at V2 ⊢
  generalize k0_pay10 W = B3 at V3 ⊢
  refine (cat_at' ![_, _, _, _, _, _, _, _] r ⟨h.val * 2 + g.val, by omega⟩ d).trans ?_
  fin_cases h <;> fin_cases g
  · exact head_lo Q 0 64 _ _ A0 B0 r d _ _ _ (fun l e hl => hQ 0 l e (by omega)) K0 V0
  · exact head_hi Q 0 64 _ _ A0 B0 r d _ _ _ (fun l e hl => hQ 1 l e (by omega)) K0 V0
  · exact head_lo Q 128 192 _ _ A1 B1 r d _ _ _ (fun l e hl => hQ 2 l e (by omega)) K1 V1
  · exact head_hi Q 128 192 _ _ A1 B1 r d _ _ _ (fun l e hl => hQ 3 l e (by omega)) K1 V1
  · exact head_lo Q 256 320 _ _ A2 B2 r d _ _ _ (fun l e hl => hQ 4 l e (by omega)) K2 V2
  · exact head_hi Q 256 320 _ _ A2 B2 r d _ _ _ (fun l e hl => hQ 5 l e (by omega)) K2 V2
  · exact head_lo Q 384 448 _ _ A3 B3 r d _ _ _ (fun l e hl => hQ 6 l e (by omega)) K3 V3
  · exact head_hi Q 384 448 _ _ A3 B3 r d _ _ _ (fun l e hl => hQ 7 l e (by omega)) K3 V3

/-- The reference's three results. -/
abbrev REF7 (za : FVec Ideal Cert.ReferenceIdeal.S4096x1024 .f32) (qg kg : FVec Ideal Cert.ReferenceIdeal.S64 .f32) : FVec Ideal Cert.ReferenceIdeal.S4096x512 .f32 :=
  val_main_v52 (F := Ideal) za qg kg
abbrev REF8 (za : FVec Ideal Cert.ReferenceIdeal.S4096x1024 .f32) (kg : FVec Ideal Cert.ReferenceIdeal.S64 .f32) : FVec Ideal Cert.ReferenceIdeal.S4096x256 .f32 :=
  val_main_v53 (F := Ideal) za kg
abbrev REF9 (za : FVec Ideal Cert.ReferenceIdeal.S4096x1024 .f32) : FVec Ideal Cert.ReferenceIdeal.S4096x256 .f32 :=
  val_main_v54 (F := Ideal) za

/-- Where a tile of each result lies. -/
theorem emb7 (t : Fin cfg0.N) (r : Fin 256) (l : Fin 512) : ((cfg0.win 7).blk t).view.emb (ix2 r l) = ix2 (row t r) l := by
  blk_ext [idx t]
theorem emb8 (t : Fin cfg0.N) (r : Fin 256) (l : Fin 256) : ((cfg0.win 8).blk t).view.emb (ix2 r l) = ix2 (row t r) l := by
  blk_ext [idx t]
theorem emb9 (t : Fin cfg0.N) (r : Fin 256) (l : Fin 256) : ((cfg0.win 9).blk t).view.emb (ix2 r l) = ix2 (row t r) l := by
  blk_ext [idx t]

/-- The first result of a tile is the reference's. -/
theorem point7 (hz : ∀ (R : Fin 4096) (k : Fin 1024), k.val < 768 → m ((c : Thread nD τ).loc main_arg0) (ix2 R k) = ((zr R k.val : ℝ) : EReal))
    (h1 : ∀ e, m ((c : Thread nD τ).loc main_arg1) (ix1 e) = ((g1 e : ℝ) : EReal)) (h2 : ∀ e, m ((c : Thread nD τ).loc main_arg2) (ix1 e) = ((g2 e : ℝ) : EReal))
    (t : Fin cfg0.N) (y : S256x512.Idx) :
    (outsAt0 m c t).1 y = REF7 (m ((c : Thread nD τ).loc main_arg0)) (m ((c : Thread nD τ).loc main_arg1)) (m ((c : Thread nD τ).loc main_arg2))
      (((cfg0.win 7).blk t).view.emb y) := by
  idx_vars y
  obtain ⟨h, g, d, hl⟩ : ∃ (h : Fin 4) (g : Fin 2) (d : Fin 64), y1 = ⟨(h.val * 2 + g.val) * 64 + d.val, by omega⟩ :=
    ⟨⟨y1.val / 128, by omega⟩, ⟨y1.val / 64 % 2, by omega⟩, ⟨y1.val % 64, by omega⟩,
      Fin.ext (by show y1.val = (y1.val / 128 * 2 + y1.val / 64 % 2) * 64 + y1.val % 64; omega)⟩
  subst hl
  refine (tile_att m c zr g1 g2 hz h1 h2 t y0 h g d).trans ?_
  refine Eq.trans ?_ (congrArg (REF7 _ _ _) (emb7 t y0 _)).symm
  exact (o_ref zr g1 g2 _ _ _ hz h1 h2 t h g y0 d).symm

/-- The second result of a tile is the reference's. -/
theorem point8 (hz : ∀ (R : Fin 4096) (k : Fin 1024), k.val < 768 → m ((c : Thread nD τ).loc main_arg0) (ix2 R k) = ((zr R k.val : ℝ) : EReal))
    (h2 : ∀ e, m ((c : Thread nD τ).loc main_arg2) (ix1 e) = ((g2 e : ℝ) : EReal))
    (t : Fin cfg0.N) (y : S256x256.Idx) :
    (outsAt0 m c t).2.1 y = REF8 (m ((c : Thread nD τ).loc main_arg0)) (m ((c : Thread nD τ).loc main_arg2)) (((cfg0.win 8).blk t).view.emb y) := by
  idx_vars y
  rw [out8, kn_ker m c zr g2 hz h2 t y0 y1]
  refine Eq.trans ?_ (congrArg (REF8 _ _) (emb8 t y0 y1)).symm
  refine Eq.trans ?_ (v53_at _ _ t y0 y1).symm
  exact (kn_ref zr g2 _ _ hz h2 t y0 ⟨y1.val / 64, by omega⟩ ⟨y1.val % 64, by omega⟩).symm

/-- The third result of a tile is the reference's. -/
theorem point9 (t : Fin cfg0.N) (y : S256x256.Idx) :
    (outsAt0 m c t).2.2 y = REF9 (m ((c : Thread nD τ).loc main_arg0)) (((cfg0.win 9).blk t).view.emb y) := by
  idx_vars y
  rw [out9]
  refine (v_blk m c t y0 y1).trans ?_
  refine Eq.trans ?_ (congrArg (REF9 _) (emb9 t y0 y1)).symm
  refine Eq.trans ?_ (v54_at _ t y0 y1).symm
  refine Eq.trans ?_ (v_ref _ t y0 ⟨y1.val / 64, by omega⟩ ⟨y1.val % 64, by omega⟩).symm
  have a1 : 768 + y1.val = 768 + (y1.val / 64 * 64 + y1.val % 64) := by omega
  exact congrArg (fun k => m ((c : Thread nD τ).loc main_arg0) (ix2 (row t y0) k)) (Fin.ext a1)

/-- The first result after the run is the reference's. -/
theorem final7 (hz : ∀ (R : Fin 4096) (k : Fin 1024), k.val < 768 → m ((c : Thread nD τ).loc main_arg0) (ix2 R k) = ((zr R k.val : ℝ) : EReal))
    (h1 : ∀ e, m ((c : Thread nD τ).loc main_arg1) (ix1 e) = ((g1 e : ℝ) : EReal)) (h2 : ∀ e, m ((c : Thread nD τ).loc main_arg2) (ix1 e) = ((g2 e : ℝ) : EReal)) :
    (dats m 0 c).arrAt 7 (cfgs 0).N = REF7 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point7 m c zr g1 g2 hz h1 h2 t y
/-- The second result after the run is the reference's. -/
theorem final8 (hz : ∀ (R : Fin 4096) (k : Fin 1024), k.val < 768 → m ((c : Thread nD τ).loc main_arg0) (ix2 R k) = ((zr R k.val : ℝ) : EReal))
    (h2 : ∀ e, m ((c : Thread nD τ).loc main_arg2) (ix1 e) = ((g2 e : ℝ) : EReal)) :
    (dats m 0 c).arrAt 8 (cfgs 0).N = REF8 (m ((c : Thread nD τ).loc main_arg0)) (m ((c : Thread nD τ).loc main_arg2)) := by
  refine (dats m 0 c).arrAt_eq_of_covers 8 _ (by decide +kernel) fun t _ y => ?_
  blk_simp
  rw [after0_8]
  exact point8 m c zr g2 hz h2 t y
/-- The third result after the run is the reference's. -/
theorem final9 : (dats m 0 c).arrAt 9 (cfgs 0).N = REF9 (m ((c : Thread nD τ).loc main_arg0)) := by
  refine (dats m 0 c).arrAt_eq_of_covers 9 _ (by decide +kernel) fun t _ y => ?_
  blk_simp
  rw [after0_9]
  exact point9 m c t y

end Real
end Cert.KernelIdeal.Attn
-- ==== Proof.FfnCtxValue.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem
open Idealize.ShloMosaic.Pipeline (Dat)
namespace Cert.Kernel5Ideal.Ffn
open Cert.Kernel5Ideal Cert.Kernel5Ideal.Gen Cert.Reference5Ideal.Read

variable (m : (ℓ : Loc nD τ sig) → Buf (Elt Ideal) ℓ)

/-- The block indices of every window at point `t`: the row windows at tile `t`, the modulation at
    the context's entry, the first; the weights whole. -/
theorem idx : ∀ t : Fin cfg0.N, win0_0.index t = ![t.val, 0] ∧ win0_1.index t = ![0, 0, 0] ∧
    win0_2.index t = ![0, 0] ∧ win0_3.index t = ![0, 0] ∧ win0_4.index t = ![0, 0] ∧ win0_5.index t = ![t.val, 0] :=
  (by decide +kernel : ∀ t : Fin grid0.N, _)

/-- The reference's result. -/
abbrev REF (X : FVec Ideal Cert.Reference5Ideal.S16x256x1024 .f32) (M : FVec Ideal Cert.Reference5Ideal.S16x6x1024 .f32)
    (g : FVec Ideal Cert.Reference5Ideal.S1024 .f32) (Wi : FVec Ideal Cert.Reference5Ideal.S1024x5632 .f32)
    (Wo : FVec Ideal Cert.Reference5Ideal.S2816x1024 .f32) : FVec Ideal Cert.Reference5Ideal.S4096x1024 .f32 :=
  val_main_v37 (F := Ideal) X M g Wi Wo

/-- A tile of the block's input, read at an element. -/
theorem x_blk (c : Dev nD) (t : Fin cfg0.N) (r : Fin 256) (k : Fin 1024) :
    iblk m c 0 t (ix2 r k) = m ((c : Thread nD τ).loc main_arg0) (ix3 t r k) := by
  blk_point [iblk, V, idx t]
/-- The modulation block, read at an element. -/
theorem mod_blk (c : Dev nD) (t : Fin cfg0.N) (a : Fin 6) (k : Fin 1024) :
    iblk m c 1 t (ix3 0 a k) = m ((c : Thread nD τ).loc main_arg1) (ix3 0 a k) := by
  blk_point [iblk, V, idx t]
/-- The norm's gains, read at an element. -/
theorem g_blk (c : Dev nD) (t : Fin cfg0.N) (k : Fin 1024) :
    iblk m c 2 t (ix2 0 k) = m ((c : Thread nD τ).loc main_arg2) (ix1 k) := by
  blk_point [iblk, V, idx t]
/-- The first weight, read at an element. -/
theorem wi_blk (c : Dev nD) (t : Fin cfg0.N) (k : Fin 1024) (l : Fin 5632) :
    iblk m c 3 t (ix2 k l) = m ((c : Thread nD τ).loc main_arg3) (ix2 k l) := by
  blk_point [iblk, V, idx t]
/-- The second weight, read at an element. -/
theorem wo_blk (c : Dev nD) (t : Fin cfg0.N) (k : Fin 2816) (l : Fin 1024) :
    iblk m c 4 t (ix2 k l) = m ((c : Thread nD τ).loc main_arg4) (ix2 k l) := by
  blk_point [iblk, V, idx t]

/-- The tile's hidden row, before the activation, is the reference's. -/
theorem hid (c : Dev nD) (t : Fin cfg0.N) (r : Fin 256) (l : Fin 5632) :
    k0_pay3 (View.ld (iblk m c 0 t) r0_0) (View.ld (iblk m c 2 t) r0_1) (View.ld (iblk m c 1 t) r0_2)
      (View.ld (iblk m c 1 t) r0_3) (View.ld (iblk m c 3 t) r0_4) (ix2 r l)
    = val_main_v27 (F := Ideal) (m ((c : Thread nD τ).loc main_arg0)) (m ((c : Thread nD τ).loc main_arg1))
        (m ((c : Thread nD τ).loc main_arg2)) (m ((c : Thread nD τ).loc main_arg3)) (ix3 t r l) := by
  pointwise [k0_pay2, k0_pay3, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v2, val_main_v1, val_main_v0, val_main_cst, val_main_cst_0, val_main_cst_1, val_main_cst_2]
  refine Finset.sum_congr rfl fun k _ => ?_
  have hx := fun k => x_blk m c t r k
  have hm := fun a k => mod_blk m c t a k
  have hg := fun k => g_blk m c t k
  have hw := fun k l => wi_blk m c t k l
  simp only [hx, hm, hg, hw]
  done

/-- The tile's result, element by element, is the reference's before its last reshape. -/
theorem point (c : Dev nD) (t : Fin cfg0.N) (r : Fin 256) (l : Fin 1024) :
    out0_5 (iblk m c 0 t) (iblk m c 1 t) (iblk m c 2 t) (iblk m c 3 t) (iblk m c 4 t) (ix2 r l)
    = val_main_v36 (F := Ideal) (m ((c : Thread nD τ).loc main_arg0)) (m ((c : Thread nD τ).loc main_arg1)) (m ((c : Thread nD τ).loc main_arg2))
       (m ((c : Thread nD τ).loc main_arg3)) (m ((c : Thread nD τ).loc main_arg4)) (ix3 t r l) := by
  unfold out0_5
  rw [View.canon_unit_zero (show (![0, 0] : Fin 2 → Nat) = fun _ => 0 from funext fun a => by fin_cases a <;> rfl)]
  unfold k0_pay4
  have hh := fun l => hid m c t r l
  generalize k0_pay3 (View.ld (iblk m c 0 t) r0_0) (View.ld (iblk m c 2 t) r0_1) (View.ld (iblk m c 1 t) r0_2)
      (View.ld (iblk m c 1 t) r0_3) (View.ld (iblk m c 3 t) r0_4) = H at hh ⊢
  pointwise [k0_pay1, k0_pay2, val_main_v36, val_main_v35, val_main_v34, val_main_v33, val_main_v32, val_main_v31, val_main_v30, val_main_v29, val_main_v28, val_main_call0_v5, val_main_call0_v4, val_main_call0_cst_0, val_main_call0_v3, val_main_call0_v2, val_main_call0_cst, val_main_call0_v1, val_main_call0_v0, val_main_v5, val_main_v4]
  have hx := fun k => x_blk m c t r k
  have hm := fun a k => mod_blk m c t a k
  have hw := fun k l => wo_blk m c t k l
  simp only [hx, hm, hw, hh, zero_sub]

/-- The reference's last reshape: row `R` is position `R % 256` of batch entry `R / 256`. -/
theorem v37_at (X : FVec Ideal Cert.Reference5Ideal.S16x256x1024 .f32) (M : FVec Ideal Cert.Reference5Ideal.S16x6x1024 .f32)
    (g : FVec Ideal Cert.Reference5Ideal.S1024 .f32) (Wi : FVec Ideal Cert.Reference5Ideal.S1024x5632 .f32)
    (Wo : FVec Ideal Cert.Reference5Ideal.S2816x1024 .f32) (R : Fin 4096) (l : Fin 1024) :
    REF X M g Wi Wo (ix2 R l) = val_main_v36 (F := Ideal) X M g Wi Wo (ix3 ⟨R.val / 256, by omega⟩ ⟨R.val % 256, by omega⟩ l) := by
  pointwise [REF, val_main_v37]

/-- Where the tile of the result lies. -/
theorem emb_out (t : Fin cfg0.N) (r : Fin 256) (l : Fin 1024) : ((cfg0.win 5).blk t).view.emb (ix2 r l)
    = ix2 (⟨t.val * 256 + r.val, by have : t.val < 16 := t.isLt; omega⟩ : Fin 4096) l := by
  blk_ext [idx t]

/-- The tile's result, at any of its indices. -/
theorem point' (c : Dev nD) (t : Fin cfg0.N) (y : S256x1024.Idx) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
       (m ((c : Thread nD τ).loc main_arg3)) (m ((c : Thread nD τ).loc main_arg4)) (((cfg0.win 5).blk t).view.emb y) := by
  idx_vars y
  refine (point m c t y0 y1).trans ?_
  refine Eq.trans ?_ (congrArg (REF _ _ _ _ _) (emb_out t y0 y1)).symm
  refine Eq.trans ?_ (v37_at _ _ _ _ _ _ _).symm
  refine congrArg (val_main_v36 (F := Ideal) _ _ _ _ _) ?_
  blk_ext
/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
       (m ((c : Thread nD τ).loc main_arg3)) (m ((c : Thread nD τ).loc main_arg4)) := by
  refine (dats m 0 c).arrAt_eq_of_covers 5 _ (by decide +kernel) fun t _ y => ?_
  blk_simp
  rw [after0_5]
  exact point' m c t y
end Cert.Kernel5Ideal.Ffn
-- ==== Proof.ModValue.lean ====
/- The modulation's value: the kernel's tiles of the modulation's columns, each layer's, against the reference's product. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit

@[expose] public section
set_option maxRecDepth 16384
noncomputable section

open Idealize.ShloMosaic Idealize.ShloMosaic.TcCoe Idealize.SL.Sem
open Idealize.ShloMosaic.Pipeline (Dat)
namespace Cert.Kernel6Ideal.Modulation
open Cert.Kernel6Ideal Cert.Kernel6Ideal.Gen Cert.Reference6Ideal.Read

variable (m : (ℓ : Loc nD τ sig) → Buf (Elt Ideal) ℓ)

/-- The block indices of every window at point `t`: the conditioning whole, the weights, the bias and the result at
    layer `t / 12` and column tile `t % 12`. -/
theorem idx : ∀ t : Fin cfg0.N, win0_0.index t = ![0, 0] ∧ win0_1.index t = ![t.val / 12, 0, t.val % 12] ∧
    win0_2.index t = ![t.val / 12, 0, t.val % 12] ∧ win0_3.index t = ![t.val / 12, 0, t.val % 12] :=
  (by decide +kernel : ∀ t : Fin grid0.N, _)

/-- The layer of a point. -/
abbrev layer (t : Fin cfg0.N) : Fin 2 := ⟨t.val / 12, by have : t.val < 24 := t.isLt; omega⟩
/-- The column of the result that a tile's column is. -/
abbrev col (t : Fin cfg0.N) (l : Fin 512) : Fin 6144 := ⟨(t.val % 12) * 512 + l.val, by omega⟩

/-- The reference's result. -/
abbrev REF (X : FVec Ideal Cert.Reference6Ideal.S16x1024 .f32) (W : FVec Ideal Cert.Reference6Ideal.S2x1024x6144 .f32)
    (b : FVec Ideal Cert.Reference6Ideal.S2x6144 .f32) : FVec Ideal Cert.Reference6Ideal.S2x16x6144 .f32 :=
  val_main_v5 (F := Ideal) X W b

/-- The conditioning, read at an element. -/
theorem x_blk (c : Dev nD) (t : Fin cfg0.N) (r : Fin 16) (k : Fin 1024) :
    iblk m c 0 t (ix2 r k) = m ((c : Thread nD τ).loc main_arg0) (ix2 r k) := by
  blk_point [iblk, V, idx t]
/-- The weights' tile, read at an element. -/
theorem w_blk (c : Dev nD) (t : Fin cfg0.N) (k : Fin 1024) (l : Fin 512) :
    iblk m c 1 t (ix3 0 k l) = m ((c : Thread nD τ).loc main_arg1) (ix3 (layer t) k (col t l)) := by
  blk_point [iblk, V, idx t]
/-- The bias's tile, read at an element. -/
theorem b_blk (c : Dev nD) (t : Fin cfg0.N) (l : Fin 512) :
    iblk m c 2 t (ix3 0 0 l) = m ((c : Thread nD τ).loc main_arg2) (ix2 (layer t) (col t l)) := by
  blk_point [iblk, V, idx t]

/-- Where the tile of the result lies. -/
theorem emb_out (t : Fin cfg0.N) (r : Fin 16) (l : Fin 512) :
    ((cfg0.win 3).blk t).view.emb (ix3 0 r l) = ix3 (layer t) r (col t l) := by
  blk_ext [idx t]

/-- The tile's result, element by element, is the reference's. -/
theorem point (c : Dev nD) (t : Fin cfg0.N) (r : Fin 16) (l : Fin 512) :
    out0_3 (iblk m c 0 t) (iblk m c 1 t) (iblk m c 2 t) (ix3 0 r l)
    = REF (m ((c : Thread nD τ).loc main_arg0)) (m ((c : Thread nD τ).loc main_arg1)) (m ((c : Thread nD τ).loc main_arg2))
        (ix3 (layer t) r (col t l)) := by
  unfold out0_3
  rw [View.canon_unit_zero (show (![0, 0, 0] : Fin 3 → Nat) = fun _ => 0 from funext fun a => by fin_cases a <;> rfl)]
  pointwise [REF, k0_pay1, val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  have hx := fun r k => x_blk m c t r k
  have hw := fun k l => w_blk m c t k l
  have hb := fun l => b_blk m c t l
  simp only [hx, hw, hb, zero_sub]

/-- The tile's result, at any of its indices. -/
theorem point' (c : Dev nD) (t : Fin cfg0.N) (y : S1x16x512.Idx) :
    out0_3 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  idx_vars y
  obtain rfl : y0 = 0 := Subsingleton.elim _ _
  exact (point m c t y1 y2).trans (congrArg (REF _ _ _) (emb_out t y1 y2)).symm

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point' m c t y
end Cert.Kernel6Ideal.Modulation
-- ==== Proof.lean ====
/- The proof of the claims: each call of the layer, against the reference's lines for the same part. -/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.FfnValue
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.MergeValue
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.InValue
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnValue
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.FfnCtxValue
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.ModValue
public import Idealize.ShloMosaic.Adequacy
public import Idealize.ShloMosaic.Init

@[expose] public section

set_option maxRecDepth 16384

noncomputable section

namespace Cert.Proof

open Idealize.ShloMosaic Idealize.SL.Sem

/-- The reference of the feed-forward block ends with its arguments as they were and every semaphore at zero. -/
theorem frame_reference2 : Cert.quiescent_Reference2Ideal := fun m ρ _ =>
  (θ_run Cert.Reference2Ideal.defs _ _).mono
    (fun r h => ⟨fun c => ⟨(h c).2.1, (h c).2.2.1, (h c).2.2.2.1, (h c).2.2.2.2.1, (h c).2.2.2.2.2⟩, Idealize.ShloMosaic.sem_eq_zero_of_no_sems (by decide) r.2⟩)
    (Cert.Reference2Ideal.Value.run (F := Ideal) m ρ)

/-- The feed-forward block and its reference leave the same result, over the extended reals. -/
theorem algebraic2 : Cert.algebraic_Kernel2Ideal_Reference2Ideal := by
  intro m ρ m' ρ' _ hagree
  refine ⟨fun c => Cert.Reference2Ideal.Read.val_main_v37 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run Cert.Kernel2Ideal.defs _ _).mono (fun r h c => ⟨(h c).1.trans (Cert.Kernel2Ideal.Ffn.final m c), (h c).2⟩) (Cert.Kernel2Ideal.Value.run_blocks (F := Ideal) m ρ),
    (θ_run Cert.Reference2Ideal.defs _ _).mono (fun r h c => ⟨((h c).1.trans (Cert.Reference2Ideal.Read.val_main_v37_eq m' c)).trans ?_, (h c).2⟩) (Cert.Reference2Ideal.Value.run (F := Ideal) m' ρ')⟩
  all_goals rw [(hagree c).1, (hagree c).2.1, (hagree c).2.2.1, (hagree c).2.2.2.1, (hagree c).2.2.2.2]

/-- The reference of the gated merge ends with its arguments as they were and every semaphore at zero. -/
theorem frame_reference3 : Cert.quiescent_Reference3Ideal := fun m ρ _ =>
  (θ_run Cert.Reference3Ideal.defs _ _).mono
    (fun r h => ⟨fun c => ⟨(h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩, Idealize.ShloMosaic.sem_eq_zero_of_no_sems (by decide) r.2⟩)
    (Cert.Reference3Ideal.Value.run (F := Ideal) m ρ)

/-- The gated merge and its reference leave the same result, over the extended reals. -/
theorem algebraic3 : Cert.algebraic_Kernel3Ideal_Reference3Ideal := by
  intro m ρ m' ρ' _ hagree
  refine ⟨fun c => Cert.Reference3Ideal.Read.val_main_v54 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)),
    (θ_run Cert.Kernel3Ideal.defs _ _).mono (fun r h c => ⟨(h c).1.trans (Cert.Kernel3Ideal.Merge.final m c), (h c).2⟩) (Cert.Kernel3Ideal.Value.run_blocks (F := Ideal) m ρ),
    (θ_run Cert.Reference3Ideal.defs _ _).mono (fun r h c => ⟨((h c).1.trans (Cert.Reference3Ideal.Read.val_main_v54_eq m' c)).trans ?_, (h c).2⟩) (Cert.Reference3Ideal.Value.run (F := Ideal) m' ρ')⟩
  all_goals rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

/-- The reference of the input projection ends with its arguments as they were and every semaphore at zero. -/
theorem frame_reference4 : Cert.quiescent_Reference4Ideal := fun m ρ _ =>
  (θ_run Cert.Reference4Ideal.defs _ _).mono
    (fun r h => ⟨fun c => ⟨(h c).2.2.2.2.1, (h c).2.2.2.2.2.1, (h c).2.2.2.2.2.2.1, (h c).2.2.2.2.2.2.2⟩, Idealize.ShloMosaic.sem_eq_zero_of_no_sems (by decide) r.2⟩)
    (Cert.Reference4Ideal.Value.run (F := Ideal) m ρ)

/-- The input projection and its reference leave the same results, over the extended reals. -/
theorem algebraic4 : Cert.algebraic_Kernel4Ideal_Reference4Ideal := by
  intro m ρ m' ρ' _ hagree
  refine ⟨fun c => Cert.Reference4Ideal.Read.val_main_v38 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), fun c => Cert.Reference4Ideal.Read.val_main_v39 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), fun c => Cert.Reference4Ideal.Read.val_main_v35 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), fun c => Cert.Reference4Ideal.Read.val_main_v37 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    (θ_run Cert.Kernel4Ideal.defs _ _).mono (fun r h c => ⟨(h c).1.trans (Cert.Kernel4Ideal.InProj.final4 m c), (h c).2.1.trans (Cert.Kernel4Ideal.InProj.final5 m c), (h c).2.2.1.trans (Cert.Kernel4Ideal.InProj.final6 m c), (h c).2.2.2.1.trans (Cert.Kernel4Ideal.InProj.final7 m c), (h c).2.2.2.2⟩) (Cert.Kernel4Ideal.Value.run_blocks (F := Ideal) m ρ),
    (θ_run Cert.Reference4Ideal.defs _ _).mono (fun r h c => ⟨((h c).1.trans (Cert.Reference4Ideal.Read.val_main_v38_eq m' c)).trans ?_, ((h c).2.1.trans (Cert.Reference4Ideal.Read.val_main_v39_eq m' c)).trans ?_, ((h c).2.2.1.trans (Cert.Reference4Ideal.Read.val_main_v35_eq _ _ _ _)).trans ?_, ((h c).2.2.2.1.trans (Cert.Reference4Ideal.Read.val_main_v37_eq _ _ _ _)).trans ?_, (h c).2.2.2.2⟩) (Cert.Reference4Ideal.Value.run (F := Ideal) m' ρ')⟩
  all_goals rw [(hagree c).1, (hagree c).2.1, (hagree c).2.2.1, (hagree c).2.2.2]

/-- The reference of the attention of the context ends with its arguments as they were and every semaphore at zero. -/
theorem frame_reference : Cert.quiescent_ReferenceIdeal := fun m ρ _ =>
  (θ_run Cert.ReferenceIdeal.defs _ _).mono
    (fun r h => ⟨fun c => ⟨(h c).2.2.2.1, (h c).2.2.2.2.1, (h c).2.2.2.2.2⟩, Idealize.ShloMosaic.sem_eq_zero_of_no_sems (by decide) r.2⟩)
    (Cert.ReferenceIdeal.Value.run (F := Ideal) m ρ)

/-- The side conditions the precondition's operations state. -/
theorem finite_facts : Cert.Pre_finite_operands.Facts where
  slices_S4096x1024_S4096x768_0_0 := by decide
  bcast_S_S4096x768 := by decide
  bcast_S_S64 := by decide

/-- Under the precondition the queries and keys are real numbers. -/
theorem finite_za [Cert.Pre_finite_operands.Facts] {za : FVec Ideal Cert.Pre_finite_operands.S4096x1024 .f32} {qg kg : FVec Ideal Cert.Pre_finite_operands.S64 .f32}
    (h : (Cert.Pre_finite_operands.fn (F := Ideal) za qg kg).1 = fun _ => 1#1) (R : Fin 4096) (k : Fin 1024) (hk : k.val < 768) :
    za (ix2 R k) = ((((za (ix2 R k) : EReal).toReal : ℝ)) : EReal) := by
  have hh : FloatOps.cmpf (F := Ideal) (φ := .f32) .olt (FloatOps.absf (F := Ideal) (φ := .f32) (za (ix2 R k)))
      (Ideal.ofBits .f32 0x7F800000#32) = 1#1 := by
    have h0 := congrFun h (ix2 R ⟨k.val, hk⟩)
    have e : (extractStridedSlice Cert.Pre_finite_operands.S4096x768 ![0, 0] za Cert.Pre_finite_operands.Facts.slices_S4096x1024_S4096x768_0_0)
        (ix2 R ⟨k.val, hk⟩) = za (ix2 R k) := by
      refine congrArg za (funext fun d => Fin.ext ?_)
      fin_cases d <;> simp [ix2]
    rw [← e]
    exact h0
  obtain ⟨x, hx⟩ := Cert.RealRows.real_of_abs_lt hh
  rw [hx]; rfl

/-- Under the precondition the gain of the queries' norm is real. -/
theorem finite_qg [Cert.Pre_finite_operands.Facts] {za : FVec Ideal Cert.Pre_finite_operands.S4096x1024 .f32} {qg kg : FVec Ideal Cert.Pre_finite_operands.S64 .f32}
    (h : (Cert.Pre_finite_operands.fn (F := Ideal) za qg kg).2.1 = fun _ => 1#1) (e : Fin 64) :
    qg (ix1 e) = ((((qg (ix1 e) : EReal).toReal : ℝ)) : EReal) := by
  obtain ⟨x, hx⟩ := Cert.RealRows.real_of_abs_lt (x := qg (ix1 e)) (congrFun h (ix1 e))
  rw [hx]; rfl

/-- Under the precondition the gain of the keys' norm is real. -/
theorem finite_kg [Cert.Pre_finite_operands.Facts] {za : FVec Ideal Cert.Pre_finite_operands.S4096x1024 .f32} {qg kg : FVec Ideal Cert.Pre_finite_operands.S64 .f32}
    (h : (Cert.Pre_finite_operands.fn (F := Ideal) za qg kg).2.2 = fun _ => 1#1) (e : Fin 64) :
    kg (ix1 e) = ((((kg (ix1 e) : EReal).toReal : ℝ)) : EReal) := by
  obtain ⟨x, hx⟩ := Cert.RealRows.real_of_abs_lt (x := kg (ix1 e)) (congrFun h (ix1 e))
  rw [hx]; rfl

/-- The real numbers in the rows of the projected queries, keys and values. -/
def reals (za : FVec Ideal Cert.Pre_finite_operands.S4096x1024 .f32) (R : Fin 4096) (k : ℕ) : ℝ :=
  if h : k < 1024 then (za (ix2 R ⟨k, h⟩) : EReal).toReal else 0

/-- The attention of the context and its reference leave the same results, over the extended reals, when the queries,
    the keys and the gains of their norms are finite. -/
theorem algebraic [hPre_finite_operands : Cert.Pre_finite_operands.Facts] : Cert.algebraic_KernelIdeal_ReferenceIdeal := by
  intro m ρ m' ρ' hpre hagree
  have hz : ∀ (c : Dev Cert.KernelIdeal.nD) (R : Fin 4096) (k : Fin 1024), k.val < 768 → (m ((c.tc : Thread Cert.KernelIdeal.nD Cert.KernelIdeal.τ).loc Cert.KernelIdeal.main_arg0)) (ix2 R k)
      = ((reals (m ((c.tc : Thread Cert.KernelIdeal.nD Cert.KernelIdeal.τ).loc Cert.KernelIdeal.main_arg0)) R k.val : ℝ) : EReal) := by
    intro c R k hk
    simp only [reals, dif_pos k.isLt]
    exact finite_za (hpre c).1 R k hk
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)), fun c => Cert.ReferenceIdeal.Read.val_main_v54 (F := Ideal) (m ((c.tc : Thread Cert.KernelIdeal.nD Cert.KernelIdeal.τ).loc Cert.KernelIdeal.main_arg0)),
    (θ_run Cert.KernelIdeal.defs _ _).mono (fun r h c => ⟨(h c).1.trans (Cert.KernelIdeal.Attn.final7 m c (reals (m ((c.tc : Thread Cert.KernelIdeal.nD Cert.KernelIdeal.τ).loc Cert.KernelIdeal.main_arg0))) _ _ (hz c) (finite_qg (hpre c).2.1) (finite_kg (hpre c).2.2)),
      (h c).2.1.trans (Cert.KernelIdeal.Attn.final8 m c (reals (m ((c.tc : Thread Cert.KernelIdeal.nD Cert.KernelIdeal.τ).loc Cert.KernelIdeal.main_arg0))) _ (hz c) (finite_kg (hpre c).2.2)),
      (h c).2.2.1.trans (Cert.KernelIdeal.Attn.final9 m c), (h c).2.2.2⟩) (Cert.KernelIdeal.Value.run_blocks (F := Ideal) m ρ),
    (θ_run Cert.ReferenceIdeal.defs _ _).mono (fun r h c => ⟨((h c).1.trans (Cert.ReferenceIdeal.Read.val_main_v52_eq m' c)).trans ?_,
      ((h c).2.1.trans (Cert.ReferenceIdeal.Read.val_main_v53_eq _ _)).trans ?_,
      ((h c).2.2.1.trans (Cert.ReferenceIdeal.Read.val_main_v54_eq _)).trans ?_, (h c).2.2.2⟩) (Cert.ReferenceIdeal.Value.run (F := Ideal) m' ρ')⟩
  · rw [(hagree c).1, (hagree c).2.1, (hagree c).2.2]
  · rw [(hagree c).1, (hagree c).2.2]
  · rw [(hagree c).1]

/-- The reference of the feed-forward block of the context ends with its arguments as they were and every semaphore at zero. -/
theorem frame_reference5 : Cert.quiescent_Reference5Ideal := fun m ρ _ =>
  (θ_run Cert.Reference5Ideal.defs _ _).mono
    (fun r h => ⟨fun c => ⟨(h c).2.1, (h c).2.2.1, (h c).2.2.2.1, (h c).2.2.2.2.1, (h c).2.2.2.2.2⟩, Idealize.ShloMosaic.sem_eq_zero_of_no_sems (by decide) r.2⟩)
    (Cert.Reference5Ideal.Value.run (F := Ideal) m ρ)

/-- The feed-forward block of the context and its reference leave the same result, over the extended reals. -/
theorem algebraic5 : Cert.algebraic_Kernel5Ideal_Reference5Ideal := by
  intro m ρ m' ρ' _ hagree
  refine ⟨fun c => Cert.Reference5Ideal.Read.val_main_v37 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)),
    (θ_run Cert.Kernel5Ideal.defs _ _).mono (fun r h c => ⟨(h c).1.trans (Cert.Kernel5Ideal.Ffn.final m c), (h c).2⟩) (Cert.Kernel5Ideal.Value.run_blocks (F := Ideal) m ρ),
    (θ_run Cert.Reference5Ideal.defs _ _).mono (fun r h c => ⟨((h c).1.trans (Cert.Reference5Ideal.Read.val_main_v37_eq m' c)).trans ?_, (h c).2⟩) (Cert.Reference5Ideal.Value.run (F := Ideal) m' ρ')⟩
  all_goals rw [(hagree c).1, (hagree c).2.1, (hagree c).2.2.1, (hagree c).2.2.2.1, (hagree c).2.2.2.2]

/-- The reference of the modulation ends with its arguments as they were and every semaphore at zero. -/
theorem frame_reference6 : Cert.quiescent_Reference6Ideal := fun m ρ _ =>
  (θ_run Cert.Reference6Ideal.defs _ _).mono
    (fun r h => ⟨fun c => ⟨(h c).2.1, (h c).2.2.1, (h c).2.2.2⟩, Idealize.ShloMosaic.sem_eq_zero_of_no_sems (by decide) r.2⟩)
    (Cert.Reference6Ideal.Value.run (F := Ideal) m ρ)

/-- The modulation and its reference leave the same result, over the extended reals. -/
theorem algebraic6 : Cert.algebraic_Kernel6Ideal_Reference6Ideal := by
  intro m ρ m' ρ' _ hagree
  refine ⟨fun c => Cert.Reference6Ideal.Read.val_main_v5 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    (θ_run Cert.Kernel6Ideal.defs _ _).mono (fun r h c => ⟨(h c).1.trans (Cert.Kernel6Ideal.Modulation.final m c), (h c).2⟩) (Cert.Kernel6Ideal.Value.run_blocks (F := Ideal) m ρ),
    (θ_run Cert.Reference6Ideal.defs _ _).mono (fun r h c => ⟨((h c).1.trans (Cert.Reference6Ideal.Read.val_main_v5_eq _ _ _)).trans ?_, (h c).2⟩) (Cert.Reference6Ideal.Value.run (F := Ideal) m' ρ')⟩
  all_goals rw [(hagree c).1, (hagree c).2.1, (hagree c).2.2]

/-- All claims. -/
theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel.Gen.facts, Cert.KernelIdeal.Gen.facts, Cert.ReferenceIdeal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, finite_facts,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel.Gen.frame m ρ, fun m ρ _ => Cert.KernelIdeal.Gen.frame m ρ, fun m ρ _ => Cert.KernelIdeal.Gen.frame m ρ, frame_reference, fun m ρ _ => frame_reference m ρ trivial,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    trivial, algebraic2,
    trivial, algebraic3,
    trivial, algebraic4,
    trivial, algebraic (hPre_finite_operands := finite_facts),
    trivial, algebraic5,
    trivial, algebraic6⟩

end Cert.Proof
